-- ==== Defs.lean ====
def Pre_Nodes (m : (ℓ : Loc Cert.Nodes.nD Cert.Nodes.τ Cert.Nodes.sig) → Buf (Elt Bits) ℓ) : Prop :=
  True

def Pre_NodesIdeal (m : (ℓ : Loc Cert.NodesIdeal.nD Cert.NodesIdeal.τ Cert.NodesIdeal.sig) → Buf (Elt Ideal) ℓ) : Prop :=
  True

def Pre_NodesRefIdeal (m : (ℓ : Loc Cert.NodesRefIdeal.nD Cert.NodesRefIdeal.τ Cert.NodesRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Nodes [hNodes : Cert.Nodes.Facts] : Prop :=
  ∀ (m : (ℓ : Loc Cert.Nodes.nD Cert.Nodes.τ Cert.Nodes.sig) → Buf (Elt Bits) ℓ) (g : Dev Cert.Nodes.nD → PrngReg), Pre_Nodes m →
    θ_run (Cert.Nodes.defs (F := Bits)) (onTc (τ := Cert.Nodes.τ) (Cert.Nodes.main (F := Bits))) ⟨m, fun _ => 0, g⟩ (fun r => (∀ c : Dev Cert.Nodes.nD,
      r.2.mem ((c.tc : Thread Cert.Nodes.nD Cert.Nodes.τ).loc Cert.Nodes.main_arg0) = m ((c.tc : Thread Cert.Nodes.nD Cert.Nodes.τ).loc Cert.Nodes.main_arg0)
      ∧ r.2.mem ((c.tc : Thread Cert.Nodes.nD Cert.Nodes.τ).loc Cert.Nodes.main_arg1) = m ((c.tc : Thread Cert.Nodes.nD Cert.Nodes.τ).loc Cert.Nodes.main_arg1)
      ∧ r.2.mem ((c.tc : Thread Cert.Nodes.nD Cert.Nodes.τ).loc Cert.Nodes.main_arg2) = m ((c.tc : Thread Cert.Nodes.nD Cert.Nodes.τ).loc Cert.Nodes.main_arg2))
      ∧ r.2.sem = fun _ => 0)

def quiescent_NodesIdeal [hNodesIdeal : Cert.NodesIdeal.Facts] : Prop :=
  ∀ (m : (ℓ : Loc Cert.NodesIdeal.nD Cert.NodesIdeal.τ Cert.NodesIdeal.sig) → Buf (Elt Ideal) ℓ) (g : Dev Cert.NodesIdeal.nD → PrngReg), Pre_NodesIdeal m →
    θ_run (Cert.NodesIdeal.defs (F := Ideal)) (onTc (τ := Cert.NodesIdeal.τ) (Cert.NodesIdeal.main (F := Ideal))) ⟨m, fun _ => 0, g⟩ (fun r => (∀ c : Dev Cert.NodesIdeal.nD,
      r.2.mem ((c.tc : Thread Cert.NodesIdeal.nD Cert.NodesIdeal.τ).loc Cert.NodesIdeal.main_arg0) = m ((c.tc : Thread Cert.NodesIdeal.nD Cert.NodesIdeal.τ).loc Cert.NodesIdeal.main_arg0)
      ∧ r.2.mem ((c.tc : Thread Cert.NodesIdeal.nD Cert.NodesIdeal.τ).loc Cert.NodesIdeal.main_arg1) = m ((c.tc : Thread Cert.NodesIdeal.nD Cert.NodesIdeal.τ).loc Cert.NodesIdeal.main_arg1)
      ∧ r.2.mem ((c.tc : Thread Cert.NodesIdeal.nD Cert.NodesIdeal.τ).loc Cert.NodesIdeal.main_arg2) = m ((c.tc : Thread Cert.NodesIdeal.nD Cert.NodesIdeal.τ).loc Cert.NodesIdeal.main_arg2))
      ∧ r.2.sem = fun _ => 0)

def quiescent_NodesRefIdeal [hNodesRefIdeal : Cert.NodesRefIdeal.Facts] : Prop :=
  ∀ (m : (ℓ : Loc Cert.NodesRefIdeal.nD Cert.NodesRefIdeal.τ Cert.NodesRefIdeal.sig) → Buf (Elt Ideal) ℓ) (g : Dev Cert.NodesRefIdeal.nD → PrngReg), Pre_NodesRefIdeal m →
    θ_run (Cert.NodesRefIdeal.defs (F := Ideal)) (onTc (τ := Cert.NodesRefIdeal.τ) (Cert.NodesRefIdeal.main (F := Ideal))) ⟨m, fun _ => 0, g⟩ (fun r => (∀ c : Dev Cert.NodesRefIdeal.nD,
      r.2.mem ((c.tc : Thread Cert.NodesRefIdeal.nD Cert.NodesRefIdeal.τ).loc Cert.NodesRefIdeal.main_arg0) = m ((c.tc : Thread Cert.NodesRefIdeal.nD Cert.NodesRefIdeal.τ).loc Cert.NodesRefIdeal.main_arg0)
      ∧ r.2.mem ((c.tc : Thread Cert.NodesRefIdeal.nD Cert.NodesRefIdeal.τ).loc Cert.NodesRefIdeal.main_arg1) = m ((c.tc : Thread Cert.NodesRefIdeal.nD Cert.NodesRefIdeal.τ).loc Cert.NodesRefIdeal.main_arg1)
      ∧ r.2.mem ((c.tc : Thread Cert.NodesRefIdeal.nD Cert.NodesRefIdeal.τ).loc Cert.NodesRefIdeal.main_arg2) = m ((c.tc : Thread Cert.NodesRefIdeal.nD Cert.NodesRefIdeal.τ).loc Cert.NodesRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def preserves_Nodes_NodesIdeal : Prop :=
  True

def algebraic_NodesIdeal_NodesRefIdeal [hNodesIdeal : Cert.NodesIdeal.Facts] [hNodesRefIdeal : Cert.NodesRefIdeal.Facts] : Prop :=
  ∀ (m : (ℓ : Loc Cert.NodesIdeal.nD Cert.NodesIdeal.τ Cert.NodesIdeal.sig) → Buf (Elt Ideal) ℓ) (g : Dev Cert.NodesIdeal.nD → PrngReg)
    (m' : (ℓ : Loc Cert.NodesRefIdeal.nD Cert.NodesRefIdeal.τ Cert.NodesRefIdeal.sig) → Buf (Elt Ideal) ℓ) (g' : Dev Cert.NodesRefIdeal.nD → PrngReg), Pre_NodesIdeal m →
    (∀ c : Dev Cert.NodesIdeal.nD,
      m' ((c.tc : Thread Cert.NodesRefIdeal.nD Cert.NodesRefIdeal.τ).loc Cert.NodesRefIdeal.main_arg0) = m ((c.tc : Thread Cert.NodesIdeal.nD Cert.NodesIdeal.τ).loc Cert.NodesIdeal.main_arg0)
      ∧ m' ((c.tc : Thread Cert.NodesRefIdeal.nD Cert.NodesRefIdeal.τ).loc Cert.NodesRefIdeal.main_arg1) = m ((c.tc : Thread Cert.NodesIdeal.nD Cert.NodesIdeal.τ).loc Cert.NodesIdeal.main_arg1)
      ∧ m' ((c.tc : Thread Cert.NodesRefIdeal.nD Cert.NodesRefIdeal.τ).loc Cert.NodesRefIdeal.main_arg2) = m ((c.tc : Thread Cert.NodesIdeal.nD Cert.NodesIdeal.τ).loc Cert.NodesIdeal.main_arg2)) →
    ∃ (v0 : (c : Dev Cert.NodesIdeal.nD) → Buf (Elt Ideal) ((c.tc : Thread Cert.NodesIdeal.nD Cert.NodesIdeal.τ).loc Cert.NodesIdeal.main_v15)),
      θ_run (Cert.NodesIdeal.defs (F := Ideal)) (onTc (τ := Cert.NodesIdeal.τ) (Cert.NodesIdeal.main (F := Ideal))) ⟨m, fun _ => 0, g⟩ (fun r => ∀ c : Dev Cert.NodesIdeal.nD,
          r.2.mem ((c.tc : Thread Cert.NodesIdeal.nD Cert.NodesIdeal.τ).loc Cert.NodesIdeal.main_v15) = v0 c
          ∧ r.2.mem ((c.tc : Thread Cert.NodesIdeal.nD Cert.NodesIdeal.τ).loc Cert.NodesIdeal.main_arg0) = m ((c.tc : Thread Cert.NodesIdeal.nD Cert.NodesIdeal.τ).loc Cert.NodesIdeal.main_arg0)
          ∧ r.2.mem ((c.tc : Thread Cert.NodesIdeal.nD Cert.NodesIdeal.τ).loc Cert.NodesIdeal.main_arg1) = m ((c.tc : Thread Cert.NodesIdeal.nD Cert.NodesIdeal.τ).loc Cert.NodesIdeal.main_arg1)
          ∧ r.2.mem ((c.tc : Thread Cert.NodesIdeal.nD Cert.NodesIdeal.τ).loc Cert.NodesIdeal.main_arg2) = m ((c.tc : Thread Cert.NodesIdeal.nD Cert.NodesIdeal.τ).loc Cert.NodesIdeal.main_arg2))
      ∧ θ_run (Cert.NodesRefIdeal.defs (F := Ideal)) (onTc (τ := Cert.NodesRefIdeal.τ) (Cert.NodesRefIdeal.main (F := Ideal))) ⟨m', fun _ => 0, g'⟩ (fun r => ∀ c : Dev Cert.NodesRefIdeal.nD,
          r.2.mem ((c.tc : Thread Cert.NodesRefIdeal.nD Cert.NodesRefIdeal.τ).loc Cert.NodesRefIdeal.main_v8) = v0 c
          ∧ r.2.mem ((c.tc : Thread Cert.NodesRefIdeal.nD Cert.NodesRefIdeal.τ).loc Cert.NodesRefIdeal.main_arg0) = m' ((c.tc : Thread Cert.NodesRefIdeal.nD Cert.NodesRefIdeal.τ).loc Cert.NodesRefIdeal.main_arg0)
          ∧ r.2.mem ((c.tc : Thread Cert.NodesRefIdeal.nD Cert.NodesRefIdeal.τ).loc Cert.NodesRefIdeal.main_arg1) = m' ((c.tc : Thread Cert.NodesRefIdeal.nD Cert.NodesRefIdeal.τ).loc Cert.NodesRefIdeal.main_arg1)
          ∧ r.2.mem ((c.tc : Thread Cert.NodesRefIdeal.nD Cert.NodesRefIdeal.τ).loc Cert.NodesRefIdeal.main_arg2) = m' ((c.tc : Thread Cert.NodesRefIdeal.nD Cert.NodesRefIdeal.τ).loc Cert.NodesRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v19)) (v1 : (c : Dev Cert.FfnIdeal.nD) → Buf (Elt Ideal) ((c.tc : Thread Cert.FfnIdeal.nD Cert.FfnIdeal.τ).loc Cert.FfnIdeal.main_v20)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19) = v0 c
          ∧ r.2.mem ((c.tc : Thread Cert.FfnIdeal.nD Cert.FfnIdeal.τ).loc Cert.FfnIdeal.main_v20) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_v18) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def Claim : Prop :=
  ∃ (hNodes : Cert.Nodes.Facts) (hNodesIdeal : Cert.NodesIdeal.Facts) (hNodesRefIdeal : Cert.NodesRefIdeal.Facts) (hFfn : Cert.Ffn.Facts) (hFfnIdeal : Cert.FfnIdeal.Facts) (hFfnRefIdeal : Cert.FfnRefIdeal.Facts),
    quiescent_Nodes (hNodes := hNodes)
    ∧ quiescent_NodesIdeal (hNodesIdeal := hNodesIdeal)
    ∧ quiescent_NodesRefIdeal (hNodesRefIdeal := hNodesRefIdeal)
    ∧ quiescent_Ffn (hFfn := hFfn)
    ∧ quiescent_FfnIdeal (hFfnIdeal := hFfnIdeal)
    ∧ quiescent_FfnRefIdeal (hFfnRefIdeal := hFfnRefIdeal)
    ∧ preserves_Nodes_NodesIdeal
    ∧ algebraic_NodesIdeal_NodesRefIdeal (hNodesIdeal := hNodesIdeal) (hNodesRefIdeal := hNodesRefIdeal)
    ∧ preserves_Ffn_FfnIdeal
    ∧ algebraic_FfnIdeal_FfnRefIdeal (hFfnIdeal := hFfnIdeal) (hFfnRefIdeal := hFfnRefIdeal)
-- ==== Nodes.lean ====
abbrev S40000x4096 : Shape := ⟨2, ![40000, 4096]⟩
abbrev S40000 : Shape := ⟨1, ![40000]⟩
abbrev S4296x2x3072 : Shape := ⟨3, ![4296, 2, 3072]⟩
abbrev S_ : Shape := ⟨0, ![]⟩
abbrev S40960x4096 : Shape := ⟨2, ![40960, 4096]⟩
abbrev S40960x8x4x128 : Shape := ⟨4, ![40960, 8, 4, 128]⟩
abbrev S40960x8x128x4 : Shape := ⟨4, ![40960, 8, 128, 4]⟩
abbrev S40960x8x128 : Shape := ⟨3, ![40960, 8, 128]⟩
abbrev S40960 : Shape := ⟨1, ![40960]⟩
abbrev S40960x1x1 : Shape := ⟨3, ![40960, 1, 1]⟩
abbrev S40960x1x128 : Shape := ⟨3, ![40960, 1, 128]⟩
abbrev S4296x2x32x96 : Shape := ⟨4, ![4296, 2, 32, 96]⟩
abbrev S4296x2x96x32 : Shape := ⟨4, ![4296, 2, 96, 32]⟩
abbrev S4296x6144 : Shape := ⟨2, ![4296, 6144]⟩
abbrev S4096x6144 : Shape := ⟨2, ![4096, 6144]⟩
abbrev S327680x128 : Shape := ⟨2, ![327680, 128]⟩
abbrev S40960x128 : Shape := ⟨2, ![40960, 128]⟩
abbrev S40960x6144 : Shape := ⟨2, ![40960, 6144]⟩
abbrev S4096x128 : Shape := ⟨2, ![4096, 128]⟩
abbrev S512x128 : Shape := ⟨2, ![512, 128]⟩
abbrev S512x3072 : Shape := ⟨2, ![512, 3072]⟩
abbrev S512x4096 : Shape := ⟨2, ![512, 4096]⟩
abbrev S4096x512 : Shape := ⟨2, ![4096, 512]⟩
abbrev S512x512 : Shape := ⟨2, ![512, 512]⟩
abbrev S40000x6144 : Shape := ⟨2, ![40000, 6144]⟩

abbrev nBuf : Space → Nat
  | .hbm => 21
  | .vmem => 8
  | .smem => 0
  | _ => 0

abbrev bufTy : (tb : Table) → Fin (tcTables nBuf tb) → BufTy
  | .hbm, ⟨0, _⟩ => ⟨S40000x4096, .i8⟩
  | .hbm, ⟨1, _⟩ => ⟨S40000, .f32⟩
  | .hbm, ⟨2, _⟩ => ⟨S4296x2x3072, .fp8e4m3⟩
  | .hbm, ⟨3, _⟩ => ⟨S_, .i8⟩
  | .hbm, ⟨4, _⟩ => ⟨S40960x4096, .i8⟩
  | .hbm, ⟨5, _⟩ => ⟨S40960x8x4x128, .i8⟩
  | .hbm, ⟨6, _⟩ => ⟨S40960x8x128x4, .i8⟩
  | .hbm, ⟨7, _⟩ => ⟨S40960x8x128, .i32⟩
  | .hbm, ⟨8, _⟩ => ⟨S_, .f32⟩
  | .hbm, ⟨9, _⟩ => ⟨S40960, .f32⟩
  | .hbm, ⟨10, _⟩ => ⟨S40960x1x1, .f32⟩
  | .hbm, ⟨11, _⟩ => ⟨S40960x1x128, .f32⟩
  | .hbm, ⟨12, _⟩ => ⟨S4296x2x32x96, .fp8e4m3⟩
  | .hbm, ⟨13, _⟩ => ⟨S4296x2x96x32, .fp8e4m3⟩
  | .hbm, ⟨14, _⟩ => ⟨S4296x2x3072, .fp8e4m3⟩
  | .hbm, ⟨15, _⟩ => ⟨S4296x6144, .fp8e4m3⟩
  | .hbm, ⟨16, _⟩ => ⟨S4096x6144, .fp8e4m3⟩
  | .hbm, ⟨17, _⟩ => ⟨S327680x128, .i32⟩
  | .hbm, ⟨18, _⟩ => ⟨S40960x128, .f32⟩
  | .hbm, ⟨19, _⟩ => ⟨S40960x6144, .f32⟩
  | .hbm, ⟨20, _⟩ => ⟨S40000x6144, .f32⟩
  | .local _ .vmem, ⟨0, _⟩ => ⟨S4096x128, .i32⟩
  | .local _ .vmem, ⟨1, _⟩ => ⟨S4096x128, .i32⟩
  | .local _ .vmem, ⟨2, _⟩ => ⟨S512x128, .f32⟩
  | .local _ .vmem, ⟨3, _⟩ => ⟨S512x128, .f32⟩
  | .local _ .vmem, ⟨4, _⟩ => ⟨S4096x6144, .fp8e4m3⟩
  | .local _ .vmem, ⟨5, _⟩ => ⟨S512x3072, .f32⟩
  | .local _ .vmem, ⟨6, _⟩ => ⟨S512x3072, .f32⟩
  | .local _ .vmem, ⟨7, _⟩ => ⟨S512x4096, .bf16⟩
  | _, _ => ⟨S40000x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![79, 2], ![false, false]⟩

def k0_mult1 (i : grid0.Coords) : BitVec 32 :=
  let arg1 : BitVec 32 := BitVec.ofNat 32 (i 1).val
  let c3072_i32 : BitVec 32 := 3072#32
  let v5 : BitVec 32 := Scalar.muli arg1 c3072_i32
  let c0_i32_2 : BitVec 32 := 0#32
  let v6 : BitVec 32 := Scalar.addi v5 c0_i32_2
  v6
def k0_off1 (i : grid0.Coords) (c0_i32_2 : BitVec 32) : Fin 2 → Nat :=
  let c0_5 : Index := 0#32
  let arg1 : BitVec 32 := BitVec.ofNat 32 (i 1).val
  let c3072_i32 : BitVec 32 := 3072#32
  let v5 : BitVec 32 := Scalar.muli arg1 c3072_i32
  let v6 : BitVec 32 := Scalar.addi v5 c0_i32_2
  let v7 : BitVec 32 := v6
  let v9 : Index := Scalar.indexCast v7
  ![0, v9.toNat]
def k0_mult2 (i : grid0.Coords) : BitVec 32 :=
  let arg1 : BitVec 32 := BitVec.ofNat 32 (i 1).val
  let c3072_i32_11 : BitVec 32 := 3072#32
  let v25 : BitVec 32 := Scalar.muli arg1 c3072_i32_11
  let c512_i32 : BitVec 32 := 512#32
  let v26 : BitVec 32 := Scalar.addi v25 c512_i32
  v26
def k0_mult3 (i : grid0.Coords) : BitVec 32 :=
  let arg1 : BitVec 32 := BitVec.ofNat 32 (i 1).val
  let c3072_i32_20 : BitVec 32 := 3072#32
  let v45 : BitVec 32 := Scalar.muli arg1 c3072_i32_20
  let c1024_i32 : BitVec 32 := 1024#32
  let v46 : BitVec 32 := Scalar.addi v45 c1024_i32
  v46
def k0_mult4 (i : grid0.Coords) : BitVec 32 :=
  let arg1 : BitVec 32 := BitVec.ofNat 32 (i 1).val
  let c3072_i32_29 : BitVec 32 := 3072#32
  let v65 : BitVec 32 := Scalar.muli arg1 c3072_i32_29
  let c1536_i32 : BitVec 32 := 1536#32
  let v66 : BitVec 32 := Scalar.addi v65 c1536_i32
  v66
def k0_mult5 (i : grid0.Coords) : BitVec 32 :=
  let arg1 : BitVec 32 := BitVec.ofNat 32 (i 1).val
  let c3072_i32_38 : BitVec 32 := 3072#32
  let v85 : BitVec 32 := Scalar.muli arg1 c3072_i32_38
  let c2048_i32 : BitVec 32 := 2048#32
  let v86 : BitVec 32 := Scalar.addi v85 c2048_i32
  v86
def k0_mult6 (i : grid0.Coords) : BitVec 32 :=
  let arg1 : BitVec 32 := BitVec.ofNat 32 (i 1).val
  let c3072_i32_47 : BitVec 32 := 3072#32
  let v105 : BitVec 32 := Scalar.muli arg1 c3072_i32_47
  let c2560_i32 : BitVec 32 := 2560#32
  let v106 : BitVec 32 := Scalar.addi v105 c2560_i32
  v106
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NodesRefIdeal.lean ====
abbrev S40000x4096 : Shape := ⟨2, ![40000, 4096]⟩
abbrev S40000 : Shape := ⟨1, ![40000]⟩
abbrev S4296x2x3072 : Shape := ⟨3, ![4296, 2, 3072]⟩
abbrev S40000x1 : Shape := ⟨2, ![40000, 1]⟩
abbrev S4096x2x3072 : Shape := ⟨3, ![4096, 2, 3072]⟩
abbrev S4096x6144 : Shape := ⟨2, ![4096, 6144]⟩
abbrev S40000x6144 : Shape := ⟨2, ![40000, 6144]⟩
abbrev S40000x2x3072 : Shape := ⟨3, ![40000, 2, 3072]⟩
abbrev S40000x2x32x96 : Shape := ⟨4, ![40000, 2, 32, 96]⟩
abbrev S40000x2x96x32 : Shape := ⟨4, ![40000, 2, 96, 32]⟩

abbrev nBuf : Space → Nat
  | .hbm => 12
  | .vmem => 4
  | .smem => 0
  | _ => 0

abbrev bufTy : (tb : Table) → Fin (tcTables nBuf tb) → BufTy
  | .hbm, ⟨0, _⟩ => ⟨S40000x4096, .i8⟩
  | .hbm, ⟨1, _⟩ => ⟨S40000, .f32⟩
  | .hbm, ⟨2, _⟩ => ⟨S4296x2x3072, .fp8e4m3⟩
  | .hbm, ⟨3, _⟩ => ⟨S40000x1, .f32⟩
  | .hbm, ⟨4, _⟩ => ⟨S4096x2x3072, .fp8e4m3⟩
  | .hbm, ⟨5, _⟩ => ⟨S4096x6144, .fp8e4m3⟩
  | .hbm, ⟨6, _⟩ => ⟨S40000x6144, .f32⟩
  | .hbm, ⟨7, _⟩ => ⟨S40000x2x3072, .f32⟩
  | .hbm, ⟨8, _⟩ => ⟨S40000x2x32x96, .f32⟩
  | .hbm, ⟨9, _⟩ => ⟨S40000x2x96x32, .f32⟩
  | .hbm, ⟨10, _⟩ => ⟨S40000x2x3072, .f32⟩
  | .hbm, ⟨11, _⟩ => ⟨S40000x6144, .f32⟩
  | .local _ .vmem, ⟨0, _⟩ => ⟨S40000x4096, .i8⟩
  | .local _ .vmem, ⟨1, _⟩ => ⟨S40000x1, .f32⟩
  | .local _ .vmem, ⟨2, _⟩ => ⟨S4096x6144, .fp8e4m3⟩
  | .local _ .vmem, ⟨3, _⟩ => ⟨S40000x6144, .f32⟩
  | _, _ => ⟨S40000x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40000x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40000x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40000x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Ffn.lean ====
abbrev S3072x3072 : Shape := ⟨2, ![3072, 3072]⟩
abbrev S3072x4096 : Shape := ⟨2, ![3072, 4096]⟩
abbrev S40000 : Shape := ⟨1, ![40000]⟩
abbrev S12x256 : Shape := ⟨2, ![12, 256]⟩
abbrev S7168x16384 : Shape := ⟨2, ![7168, 16384]⟩
abbrev S16384 : Shape := ⟨1, ![16384]⟩
abbrev S16384x4096 : Shape := ⟨2, ![16384, 4096]⟩
abbrev S4096 : Shape := ⟨1, ![4096]⟩
abbrev S3072 : Shape := ⟨1, ![3072]⟩
abbrev S3072x96x32 : Shape := ⟨3, ![3072, 96, 32]⟩
abbrev S3072x32x96 : Shape := ⟨3, ![3072, 32, 96]⟩
abbrev S_ : Shape := ⟨0, ![]⟩
abbrev S3072x1 : Shape := ⟨2, ![3072, 1]⟩
abbrev S1x16384 : Shape := ⟨2, ![1, 16384]⟩
abbrev S3072x16384 : Shape := ⟨2, ![3072, 16384]⟩
abbrev S1024x3072 : Shape := ⟨2, ![1024, 3072]⟩
abbrev S1024x4096 : Shape := ⟨2, ![1024, 4096]⟩
abbrev S1024x1 : Shape := ⟨2, ![1024, 1]⟩
abbrev S7168x1024 : Shape := ⟨2, ![7168, 1024]⟩
abbrev S1x1024 : Shape := ⟨2, ![1, 1024]⟩
abbrev S1024x1024 : Shape := ⟨2, ![1024, 1024]⟩
abbrev S3072x512 : Shape := ⟨2, ![3072, 512]⟩
abbrev S1024x512 : Shape := ⟨2, ![1024, 512]⟩
abbrev S4096x512 : Shape := ⟨2, ![4096, 512]⟩
abbrev S1x512 : Shape := ⟨2, ![1, 512]⟩
abbrev S1x4096 : Shape := ⟨2, ![1, 4096]⟩
abbrev S4096x2048 : Shape := ⟨2, ![4096, 2048]⟩
abbrev S1x2048 : Shape := ⟨2, ![1, 2048]⟩
abbrev S1024x2048 : Shape := ⟨2, ![1024, 2048]⟩
abbrev S12x256x4096 : Shape := ⟨3, ![12, 256, 4096]⟩
abbrev S12x256x3072 : Shape := ⟨3, ![12, 256, 3072]⟩

abbrev nBuf : Space → Nat
  | .hbm => 33
  | .vmem => 25
  | .smem => 0
  | _ => 0

abbrev bufTy : (tb : Table) → Fin (tcTables nBuf tb) → BufTy
  | .hbm, ⟨0, _⟩ => ⟨S3072x3072, .f32⟩
  | .hbm, ⟨1, _⟩ => ⟨S3072x4096, .bf16⟩
  | .hbm, ⟨2, _⟩ => ⟨S40000, .f32⟩
  | .hbm, ⟨3, _⟩ => ⟨S12x256, .i32⟩
  | .hbm, ⟨4, _⟩ => ⟨S7168x16384, .fp8e4m3⟩
  | .hbm, ⟨5, _⟩ => ⟨S16384, .f32⟩
  | .hbm, ⟨6, _⟩ => ⟨S16384, .f32⟩
  | .hbm, ⟨7, _⟩ => ⟨S16384x4096, .fp8e4m3⟩
  | .hbm, ⟨8, _⟩ => ⟨S4096, .f32⟩
  | .hbm, ⟨9, _⟩ => ⟨S4096, .f32⟩
  | .hbm, ⟨10, _⟩ => ⟨S3072, .i32⟩
  | .hbm, ⟨11, _⟩ => ⟨S3072x96x32, .f32⟩
  | .hbm, ⟨12, _⟩ => ⟨S3072x32x96, .f32⟩
  | .hbm, ⟨13, _⟩ => ⟨S3072x3072, .f32⟩
  | .hbm, ⟨14, _⟩ => ⟨S3072x3072, .bf16⟩
  | .hbm, ⟨15, _⟩ => ⟨S_, .i32⟩
  | .hbm, ⟨16, _⟩ => ⟨S3072, .i32⟩
  | .hbm, ⟨17, _⟩ => ⟨S3072, .i1⟩
  | .hbm, ⟨18, _⟩ => ⟨S_, .i32⟩
  | .hbm, ⟨19, _⟩ => ⟨S3072, .i32⟩
  | .hbm, ⟨20, _⟩ => ⟨S3072, .i32⟩
  | .hbm, ⟨21, _⟩ => ⟨S3072, .i32⟩
  | .hbm, ⟨22, _⟩ => ⟨S3072x1, .i32⟩
  | .hbm, ⟨23, _⟩ => ⟨S3072, .f32⟩
  | .hbm, ⟨24, _⟩ => ⟨S3072x1, .f32⟩
  | .hbm, ⟨25, _⟩ => ⟨S1x16384, .f32⟩
  | .hbm, ⟨26, _⟩ => ⟨S1x16384, .f32⟩
  | .hbm, ⟨27, _⟩ => ⟨S3072x16384, .bf16⟩
  | .hbm, ⟨28, _⟩ => ⟨S1x4096, .f32⟩
  | .hbm, ⟨29, _⟩ => ⟨S1x4096, .f32⟩
  | .hbm, ⟨30, _⟩ => ⟨S3072x4096, .bf16⟩
  | .hbm, ⟨31, _⟩ => ⟨S12x256x4096, .bf16⟩
  | .hbm, ⟨32, _⟩ => ⟨S12x256x3072, .bf16⟩
  | .local _ .vmem, ⟨0, _⟩ => ⟨S1024x3072, .bf16⟩
  | .local _ .vmem, ⟨1, _⟩ => ⟨S1024x3072, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1, .f32⟩
  | .local _ .vmem, ⟨5, _⟩ => ⟨S1024x1, .f32⟩
  | .local _ .vmem, ⟨6, _⟩ => ⟨S7168x1024, .fp8e4m3⟩
  | .local _ .vmem, ⟨7, _⟩ => ⟨S7168x1024, .fp8e4m3⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x4096, .bf16⟩
  | .local _ .vmem, ⟨15, _⟩ => ⟨S1024x4096, .bf16⟩
  | .local _ .vmem, ⟨16, _⟩ => ⟨S4096x2048, .fp8e4m3⟩
  | .local _ .vmem, ⟨17, _⟩ => ⟨S4096x2048, .fp8e4m3⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1024x2048, .bf16⟩
  | .local _ .vmem, ⟨23, _⟩ => ⟨S1024x2048, .bf16⟩
  | .local _ .vmem, ⟨24, _⟩ => ⟨S1024x2048, .f32⟩
  | _, _ => ⟨S3072x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S7168x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![3, 2, 4], ![false, false, false]⟩

def k1_cond2 (i : grid1.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x2048 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]
-- ==== FfnRefIdeal.lean ====
abbrev S3072x3072 : Shape := ⟨2, ![3072, 3072]⟩
abbrev S3072x4096 : Shape := ⟨2, ![3072, 4096]⟩
abbrev S40000 : Shape := ⟨1, ![40000]⟩
abbrev S12x256 : Shape := ⟨2, ![12, 256]⟩
abbrev S7168x16384 : Shape := ⟨2, ![7168, 16384]⟩
abbrev S16384 : Shape := ⟨1, ![16384]⟩
abbrev S16384x4096 : Shape := ⟨2, ![16384, 4096]⟩
abbrev S4096 : Shape := ⟨1, ![4096]⟩
abbrev S_ : Shape := ⟨0, ![]⟩
abbrev S12x256x1 : Shape := ⟨3, ![12, 256, 1]⟩
abbrev S3072x96x32 : Shape := ⟨3, ![3072, 96, 32]⟩
abbrev S3072x32x96 : Shape := ⟨3, ![3072, 32, 96]⟩
abbrev S3072x1 : Shape := ⟨2, ![3072, 1]⟩
abbrev S1x16384 : Shape := ⟨2, ![1, 16384]⟩
abbrev S1x4096 : Shape := ⟨2, ![1, 4096]⟩
abbrev S3072x16384 : Shape := ⟨2, ![3072, 16384]⟩
abbrev S4096x16384 : Shape := ⟨2, ![4096, 16384]⟩
abbrev S12x256x4096 : Shape := ⟨3, ![12, 256, 4096]⟩
abbrev S12x256x3072 : Shape := ⟨3, ![12, 256, 3072]⟩

abbrev nBuf : Space → Nat
  | .hbm => 31
  | .vmem => 10
  | .smem => 0
  | _ => 0

abbrev bufTy : (tb : Table) → Fin (tcTables nBuf tb) → BufTy
  | .hbm, ⟨0, _⟩ => ⟨S3072x3072, .f32⟩
  | .hbm, ⟨1, _⟩ => ⟨S3072x4096, .bf16⟩
  | .hbm, ⟨2, _⟩ => ⟨S40000, .f32⟩
  | .hbm, ⟨3, _⟩ => ⟨S12x256, .i32⟩
  | .hbm, ⟨4, _⟩ => ⟨S7168x16384, .fp8e4m3⟩
  | .hbm, ⟨5, _⟩ => ⟨S16384, .f32⟩
  | .hbm, ⟨6, _⟩ => ⟨S16384, .f32⟩
  | .hbm, ⟨7, _⟩ => ⟨S16384x4096, .fp8e4m3⟩
  | .hbm, ⟨8, _⟩ => ⟨S4096, .f32⟩
  | .hbm, ⟨9, _⟩ => ⟨S4096, .f32⟩
  | .hbm, ⟨10, _⟩ => ⟨S_, .i32⟩
  | .hbm, ⟨11, _⟩ => ⟨S12x256, .i32⟩
  | .hbm, ⟨12, _⟩ => ⟨S12x256, .i1⟩
  | .hbm, ⟨13, _⟩ => ⟨S_, .i32⟩
  | .hbm, ⟨14, _⟩ => ⟨S12x256, .i32⟩
  | .hbm, ⟨15, _⟩ => ⟨S12x256, .i32⟩
  | .hbm, ⟨16, _⟩ => ⟨S12x256, .i32⟩
  | .hbm, ⟨17, _⟩ => ⟨S12x256x1, .i32⟩
  | .hbm, ⟨18, _⟩ => ⟨S12x256, .f32⟩
  | .hbm, ⟨19, _⟩ => ⟨S3072x96x32, .f32⟩
  | .hbm, ⟨20, _⟩ => ⟨S3072x32x96, .f32⟩
  | .hbm, ⟨21, _⟩ => ⟨S3072x3072, .f32⟩
  | .hbm, ⟨22, _⟩ => ⟨S3072x3072, .bf16⟩
  | .hbm, ⟨23, _⟩ => ⟨S3072x1, .f32⟩
  | .hbm, ⟨24, _⟩ => ⟨S1x16384, .f32⟩
  | .hbm, ⟨25, _⟩ => ⟨S1x16384, .f32⟩
  | .hbm, ⟨26, _⟩ => ⟨S1x4096, .f32⟩
  | .hbm, ⟨27, _⟩ => ⟨S1x4096, .f32⟩
  | .hbm, ⟨28, _⟩ => ⟨S3072x4096, .bf16⟩
  | .hbm, ⟨29, _⟩ => ⟨S12x256x4096, .bf16⟩
  | .hbm, ⟨30, _⟩ => ⟨S12x256x3072, .bf16⟩
  | .local _ .vmem, ⟨0, _⟩ => ⟨S3072x3072, .bf16⟩
  | .local _ .vmem, ⟨1, _⟩ => ⟨S3072x4096, .bf16⟩
  | .local _ .vmem, ⟨2, _⟩ => ⟨S3072x1, .f32⟩
  | .local _ .vmem, ⟨3, _⟩ => ⟨S7168x16384, .fp8e4m3⟩
  | .local _ .vmem, ⟨4, _⟩ => ⟨S1x16384, .f32⟩
  | .local _ .vmem, ⟨5, _⟩ => ⟨S1x16384, .f32⟩
  | .local _ .vmem, ⟨6, _⟩ => ⟨S16384x4096, .fp8e4m3⟩
  | .local _ .vmem, ⟨7, _⟩ => ⟨S1x4096, .f32⟩
  | .local _ .vmem, ⟨8, _⟩ => ⟨S1x4096, .f32⟩
  | .local _ .vmem, ⟨9, _⟩ => ⟨S3072x4096, .bf16⟩
  | _, _ => ⟨S3072x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3072x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Chain.Ffn.lean ====
/- The frame of the two calls of the feed-forward half, `ffn1` then `ffn2`, among the host operations around them.
   Per region, at a parameter `V` (the buffer contents when the region is entered): each window's block at a point, what the
   body leaves in its output, the proof data and the body obligation. `ffn1` stores its whole block at every point. `ffn2` carries
   its accumulator from point to point: its invariant `PhiS` names the accumulator's contents after each point, and its output
   is stored only at the last point of a row of four. Then the run over the five items of @main, and `frame`. -/
module

public import proofs.«01_k».proof.Proof.Gen.Ffn.Launch
public import proofs.«01_k».proof.Proof.Gen.Ffn.Skeleton
public import proofs.«01_k».proof.Proof.Gen.Ffn.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_ffn1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x3072 := Rect.unit (s := S1024x3072) ![0, 0] S1024x3072.size inb_S1024x3072_S1024x3072_0_0
abbrev r0_1 : Rect S7168x1024 := Rect.unit (s := S7168x1024) ![0, 0] S3072x512.size inb_S7168x1024_S3072x512_0_0
abbrev r0_2 : Rect S1024x4096 := Rect.unit (s := S1024x4096) ![0, 0] S1024x4096.size inb_S1024x4096_S1024x4096_0_0
abbrev r0_3 : Rect S7168x1024 := Rect.unit (s := S7168x1024) ![3072, 0] S4096x512.size inb_S7168x1024_S4096x512_3072_0
abbrev r0_4 : Rect S1024x1 := Rect.unit (s := S1024x1) ![0, 0] S1024x1.size inb_S1024x1_S1024x1_0_0
abbrev r0_5 : Rect S1x1024 := Rect.unit (s := S1x1024) ![0, 0] S1x512.size inb_S1x1024_S1x512_0_0
abbrev r0_6 : Rect S1024x1024 := Rect.unit (s := S1024x1024) ![0, 0] S1024x512.size inb_S1024x1024_S1024x512_0_0
abbrev r0_7 : Rect S7168x1024 := Rect.unit (s := S7168x1024) ![0, 512] S3072x512.size inb_S7168x1024_S3072x512_0_512
abbrev r0_8 : Rect S7168x1024 := Rect.unit (s := S7168x1024) ![3072, 512] S4096x512.size inb_S7168x1024_S4096x512_3072_512
abbrev r0_9 : Rect S1x1024 := Rect.unit (s := S1x1024) ![0, 512] S1x512.size inb_S1x1024_S1x512_0_512
abbrev r0_10 : Rect S1024x1024 := Rect.unit (s := S1024x1024) ![0, 512] S1024x512.size inb_S1024x1024_S1024x512_0_512

/-! ## What the body leaves in each output window's buffer -/

/-- Window 6's staging buffer after the body, from the input windows' blocks: its 2 stores as pieces, LAST
    FIRST (Lib/Pipeline/FrameBody.lean `View.canon`; the payloads are the skeleton's). -/
def out0_6 (x0 : Vec F S1024x3072 .bf16) (x1 : Vec F S1024x4096 .bf16) (x2 : Vec F S1024x1 .f32) (x3 : Vec F S7168x1024 .fp8e4m3) (x4 : Vec F S1x1024 .f32) (x5 : Vec F S1x1024 .f32) : Vec F S1024x1024 .bf16 :=
  View.canon [⟨r0_10, k0_pay1 (k0_pay3 (View.ld x0 r0_0) (View.ld x3 r0_7)) (View.ld x1 r0_2) (View.ld x3 r0_8) (View.ld x2 r0_4) (View.ld x4 r0_9) (View.ld x5 r0_9)⟩,
    ⟨r0_6, k0_pay2 (View.ld x0 r0_0) (View.ld x3 r0_1) (View.ld x1 r0_2) (View.ld x3 r0_3) (View.ld x2 r0_4) (View.ld x4 r0_5) (View.ld x5 r0_5)⟩]

/-- Its stores tile the buffer (checked by evaluation), so they cover it. -/
theorem cover0_6 (p0 : Vec F S1024x512 .bf16) (p1 : Vec F S1024x512 .bf16) (y : S1024x1024.Idx) :
    ∃ pc ∈ ([⟨r0_10, p0⟩, ⟨r0_6, p1⟩] : List (View.Piece (Elt F) S1024x1024 .bf16)), y ∈ pc.1.set :=
  View.cover_of_tiled [⟨r0_10, p0⟩, ⟨r0_6, p1⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1024x3072 .bf16) (harg2 : arg2.IsWhole) (arg3 : Memref sig .tc .vmem S1024x4096 .bf16) (harg3 : arg3.IsWhole) (arg4 : Memref sig .tc .vmem S1024x1 .f32) (harg4 : arg4.IsWhole) (arg5 : Memref sig .tc .vmem S7168x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole)
    (x0 : Vec F S1024x3072 .bf16) (x1 : Vec F S1024x4096 .bf16) (x2 : Vec F S1024x1 .f32) (x3 : Vec F S7168x1024 .fp8e4m3) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0_ffn1 i arg2 harg2 arg3 harg3 arg4 harg4 arg5 harg5 arg6 harg6 arg7 harg7 arg8 harg8) K := by
  simp only [cc0_ffn1_eq_skeleton]; unfold cc0_ffn1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_ffn2` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 24 := Nat.lt_of_lt_of_eq t.isLt N_1
    have e0 : (grid1.coords t 0).val = t.val / 8 % 3 := Pipeline.Grid.coords_val t 0 (by decide) rfl
    have e1 : (grid1.coords t 1).val = t.val / 4 % 2 := Pipeline.Grid.coords_val t 1 (by decide) rfl
    have e2 : (grid1.coords t 2).val = t.val / 1 % 4 := Pipeline.Grid.coords_val t 2 (by decide) rfl
    simp only [cond1_0, e0, e1, e2]
    word_cmp
   : ∀ t : Fin grid1.N, cond1_0 (grid1.coords t) ↔ t.val % 4 = 0)

/-- The condition of the body's `scf.if` 1 (`k1_h2`), from the grid coordinates (the skeleton's scalar
    chain substituted). -/
abbrev cond1_1 (i : grid1.Coords) : Prop := k1_cond2 i = 1#1
/-- It holds at the points ≡ 3 (mod 4) — by arithmetic of the point. -/
theorem hcond1_1 : ∀ t : Fin cfg1.N, cond1_1 (grid1.coords t) ↔ t.val % 4 = 3 :=
  (fun t => by
    have ht : t.val < 24 := Nat.lt_of_lt_of_eq t.isLt N_1
    have e0 : (grid1.coords t 0).val = t.val / 8 % 3 := Pipeline.Grid.coords_val t 0 (by decide) rfl
    have e1 : (grid1.coords t 1).val = t.val / 4 % 2 := Pipeline.Grid.coords_val t 1 (by decide) rfl
    have e2 : (grid1.coords t 2).val = t.val / 1 % 4 := Pipeline.Grid.coords_val t 2 (by decide) rfl
    simp only [cond1_1, k1_cond2, e0, e1, e2]
    word_cmp
   : ∀ t : Fin grid1.N, cond1_1 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- At the points of case A the printed configuration (`Cfg.idle`) calls output 4 idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B the printed configuration (`Cfg.idle`) calls output 4 idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C the printed configuration (`Cfg.idle`) calls output 4 live: the case stores into it. -/
theorem liveAt1_4_C : ∀ t : Fin cfg1.N, ¬cond1_0 (grid1.coords t) → cond1_1 (grid1.coords t) → cfg1.idle 4 (grid1.coords t) = false := by decide +kernel

/-! ## The kernel body on any staging memrefs: a subtype the run finds -/

/-- One staging buffer of output window 4, through which its contents are stated (`View.read_writes_of_cover`: the
    choice does not matter). -/
abbrev VO1_4 : View sig .tc .vmem S1024x2048 .bf16 := (Memref.whole cc1_stg4_0 : Memref sig .tc .vmem S1024x2048 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x2048 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S1024x2048 .f32 := Memref.whole cc1_scratch0
/-- The scratch `arg8` the kernel carries between points, as a view: what it holds is stated through it. -/
abbrev VS1_0 : View sig .tc .vmem S1024x2048 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, 8, 12, 16, 20), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) :
    Σ' (L4 : List (View.Piece (Elt F) S1024x2048 .bf16)), { LS0 : List (View.Piece (Elt F) S1024x2048 .f32) //
      ∀ (xi4 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_ffn2 i arg3 harg3 arg4 harg4 arg5 harg5 arg6 harg6 arg7 harg7 arg8 harg8) K } := by
  refine ⟨[], ?_, fun xi4 E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case A stores nothing into output 4 (the window is idle at its points and not written back there):
    no pieces — a placeholder (junk read back) that nothing consults, since at these points the window is neither
    written back nor read at the next point (Lib/Pipeline.lean "Idle points"). -/
def out1_A_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) : Vec F S1024x2048 .bf16 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for scratch `arg8`, which the kernel carries between points, cover it: 2 pieces of `S1024x2048` tiling it (Lib/Ring.lean `Piece.tiledL`). -/
theorem scover1_A_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) (y : S1024x2048.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x2048.size (by sl_kernel_rfl) y

/-- What case A leaves in scratch `arg8`: its pieces read back over junk. -/
def sout1_A_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) : Vec F S1024x2048 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 12 of 24), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) :
    Σ' (L4 : List (View.Piece (Elt F) S1024x2048 .bf16)), { LS0 : List (View.Piece (Elt F) S1024x2048 .f32) //
      ∀ (xi4 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_ffn2 i arg3 harg3 arg4 harg4 arg5 harg5 arg6 harg6 arg7 harg7 arg8 harg8) K } := by
  refine ⟨[], ?_, fun xi4 E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case B stores nothing into output 4 (the window is idle at its points and not written back there):
    no pieces — a placeholder (junk read back) that nothing consults, since at these points the window is neither
    written back nor read at the next point (Lib/Pipeline.lean "Idle points"). -/
def out1_B_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .bf16 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for scratch `arg8`, which the kernel carries between points, cover it: 1 piece of `S1024x2048` tiling it (Lib/Ring.lean `Piece.tiledL`). -/
theorem scover1_B_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) (y : S1024x2048.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x2048.size (by sl_kernel_rfl) y

/-- What case B leaves in scratch `arg8`: its pieces read back over junk. -/
def sout1_B_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3, 7, 11, 15, 19, 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) :
    Σ' (L4 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_ffn2 i arg3 harg3 arg4 harg4 arg5 harg5 arg6 harg6 arg7 harg7 arg8 harg8) K } := by
  refine ⟨?_, ?_, fun E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-- Case C's pieces for output 4 tile its block (1 store of `S1024x2048`, checked by the kernel's evaluation: Lib/Ring.lean `Piece.tiledL`, linear in the pieces, through a loop's `@[irreducible]` trip theorem too), so they cover it. -/
theorem cover1_C_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x2048.size (by sl_kernel_rfl) y

/-- What case C leaves in output 4's staging buffer: its pieces read back over junk. -/
def out1_C_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for scratch `arg8`, which the kernel carries between points, cover it: 1 piece of `S1024x2048` tiling it (Lib/Ring.lean `Piece.tiledL`). -/
theorem scover1_C_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x2048.size (by sl_kernel_rfl) y

/-- What case C leaves in scratch `arg8`: its pieces read back over junk. -/
def sout1_C_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x2048 .bf16 × Vec F S1024x2048 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by have hN : n + 1 < 24 := lt_of_lt_of_eq hn (show cfg1.N = 24 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 24 := lt_of_lt_of_eq t.isLt (show cfg1.N = 24 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        rw [outsAt1_A V c t h0 h1]
        unfold sout1_A_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1)], after1_4]
      by_cases hz : t.val = 0
      · exfalso; have hN : t.val < 24 := lt_of_lt_of_eq t.isLt (show cfg1.N = 24 from N_1); omega
      · rw [PhiS_castSucc V c t, PhiS_pos V c _ _ hz]
        rw [outsAt1_C V c t h0 h1]
        unfold out1_C_4 sout1_C_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      by_cases hz : t.val = 0
      · exfalso; have hN : t.val < 24 := lt_of_lt_of_eq t.isLt (show cfg1.N = 24 from N_1); omega
      · rw [PhiS_castSucc V c t, PhiS_pos V c _ _ hz]
        rw [outsAt1_B V c t h0 h1]
        unfold sout1_B_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 24 := N_1; omega)

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_c, main_v5, main_v6, main_c_0, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19, main_v20]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : _ ⊢ (pdats m ρ 1 c).Φ 0 := Gen.hin (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ _ := Gen.hout (V3 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Ffn`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.Ffn.Gen.facts, fun m ρ _ => Cert.Ffn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.Ffn.Gen

end
-- ==== Proof.Chain.FfnIdeal.lean ====
/- The frame of the two calls of the feed-forward half, `ffn1` then `ffn2`, among the host operations around them.
   Per region, at a parameter `V` (the buffer contents when the region is entered): each window's block at a point, what the
   body leaves in its output, the proof data and the body obligation. `ffn1` stores its whole block at every point. `ffn2` carries
   its accumulator from point to point: its invariant `PhiS` names the accumulator's contents after each point, and its output
   is stored only at the last point of a row of four. Then the run over the five items of @main, and `frame`. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_ffn1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x3072 := Rect.unit (s := S1024x3072) ![0, 0] S1024x3072.size inb_S1024x3072_S1024x3072_0_0
abbrev r0_1 : Rect S7168x1024 := Rect.unit (s := S7168x1024) ![0, 0] S3072x512.size inb_S7168x1024_S3072x512_0_0
abbrev r0_2 : Rect S1024x4096 := Rect.unit (s := S1024x4096) ![0, 0] S1024x4096.size inb_S1024x4096_S1024x4096_0_0
abbrev r0_3 : Rect S7168x1024 := Rect.unit (s := S7168x1024) ![3072, 0] S4096x512.size inb_S7168x1024_S4096x512_3072_0
abbrev r0_4 : Rect S1024x1 := Rect.unit (s := S1024x1) ![0, 0] S1024x1.size inb_S1024x1_S1024x1_0_0
abbrev r0_5 : Rect S1x1024 := Rect.unit (s := S1x1024) ![0, 0] S1x512.size inb_S1x1024_S1x512_0_0
abbrev r0_6 : Rect S1024x1024 := Rect.unit (s := S1024x1024) ![0, 0] S1024x512.size inb_S1024x1024_S1024x512_0_0
abbrev r0_7 : Rect S7168x1024 := Rect.unit (s := S7168x1024) ![0, 512] S3072x512.size inb_S7168x1024_S3072x512_0_512
abbrev r0_8 : Rect S7168x1024 := Rect.unit (s := S7168x1024) ![3072, 512] S4096x512.size inb_S7168x1024_S4096x512_3072_512
abbrev r0_9 : Rect S1x1024 := Rect.unit (s := S1x1024) ![0, 512] S1x512.size inb_S1x1024_S1x512_0_512
abbrev r0_10 : Rect S1024x1024 := Rect.unit (s := S1024x1024) ![0, 512] S1024x512.size inb_S1024x1024_S1024x512_0_512

/-! ## What the body leaves in each output window's buffer -/

/-- Window 6's staging buffer after the body, from the input windows' blocks: its 2 stores as pieces, LAST
    FIRST (Lib/Pipeline/FrameBody.lean `View.canon`; the payloads are the skeleton's). -/
def out0_6 (x0 : Vec F S1024x3072 .bf16) (x1 : Vec F S1024x4096 .bf16) (x2 : Vec F S1024x1 .f32) (x3 : Vec F S7168x1024 .fp8e4m3) (x4 : Vec F S1x1024 .f32) (x5 : Vec F S1x1024 .f32) : Vec F S1024x1024 .bf16 :=
  View.canon [⟨r0_10, k0_pay1 (k0_pay3 (View.ld x0 r0_0) (View.ld x3 r0_7)) (View.ld x1 r0_2) (View.ld x3 r0_8) (View.ld x2 r0_4) (View.ld x4 r0_9) (View.ld x5 r0_9)⟩,
    ⟨r0_6, k0_pay2 (View.ld x0 r0_0) (View.ld x3 r0_1) (View.ld x1 r0_2) (View.ld x3 r0_3) (View.ld x2 r0_4) (View.ld x4 r0_5) (View.ld x5 r0_5)⟩]

/-- Its stores tile the buffer (checked by evaluation), so they cover it. -/
theorem cover0_6 (p0 : Vec F S1024x512 .bf16) (p1 : Vec F S1024x512 .bf16) (y : S1024x1024.Idx) :
    ∃ pc ∈ ([⟨r0_10, p0⟩, ⟨r0_6, p1⟩] : List (View.Piece (Elt F) S1024x1024 .bf16)), y ∈ pc.1.set :=
  View.cover_of_tiled [⟨r0_10, p0⟩, ⟨r0_6, p1⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1024x3072 .bf16) (harg2 : arg2.IsWhole) (arg3 : Memref sig .tc .vmem S1024x4096 .bf16) (harg3 : arg3.IsWhole) (arg4 : Memref sig .tc .vmem S1024x1 .f32) (harg4 : arg4.IsWhole) (arg5 : Memref sig .tc .vmem S7168x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole)
    (x0 : Vec F S1024x3072 .bf16) (x1 : Vec F S1024x4096 .bf16) (x2 : Vec F S1024x1 .f32) (x3 : Vec F S7168x1024 .fp8e4m3) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0_ffn1 i arg2 harg2 arg3 harg3 arg4 harg4 arg5 harg5 arg6 harg6 arg7 harg7 arg8 harg8) K := by
  simp only [cc0_ffn1_eq_skeleton]; unfold cc0_ffn1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_ffn2` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 24 := Nat.lt_of_lt_of_eq t.isLt N_1
    have e0 : (grid1.coords t 0).val = t.val / 8 % 3 := Pipeline.Grid.coords_val t 0 (by decide) rfl
    have e1 : (grid1.coords t 1).val = t.val / 4 % 2 := Pipeline.Grid.coords_val t 1 (by decide) rfl
    have e2 : (grid1.coords t 2).val = t.val / 1 % 4 := Pipeline.Grid.coords_val t 2 (by decide) rfl
    simp only [cond1_0, e0, e1, e2]
    word_cmp
   : ∀ t : Fin grid1.N, cond1_0 (grid1.coords t) ↔ t.val % 4 = 0)

/-- The condition of the body's `scf.if` 1 (`k1_h2`), from the grid coordinates (the skeleton's scalar
    chain substituted). -/
abbrev cond1_1 (i : grid1.Coords) : Prop := k1_cond2 i = 1#1
/-- It holds at the points ≡ 3 (mod 4) — by arithmetic of the point. -/
theorem hcond1_1 : ∀ t : Fin cfg1.N, cond1_1 (grid1.coords t) ↔ t.val % 4 = 3 :=
  (fun t => by
    have ht : t.val < 24 := Nat.lt_of_lt_of_eq t.isLt N_1
    have e0 : (grid1.coords t 0).val = t.val / 8 % 3 := Pipeline.Grid.coords_val t 0 (by decide) rfl
    have e1 : (grid1.coords t 1).val = t.val / 4 % 2 := Pipeline.Grid.coords_val t 1 (by decide) rfl
    have e2 : (grid1.coords t 2).val = t.val / 1 % 4 := Pipeline.Grid.coords_val t 2 (by decide) rfl
    simp only [cond1_1, k1_cond2, e0, e1, e2]
    word_cmp
   : ∀ t : Fin grid1.N, cond1_1 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- At the points of case A the printed configuration (`Cfg.idle`) calls output 4 idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B the printed configuration (`Cfg.idle`) calls output 4 idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C the printed configuration (`Cfg.idle`) calls output 4 live: the case stores into it. -/
theorem liveAt1_4_C : ∀ t : Fin cfg1.N, ¬cond1_0 (grid1.coords t) → cond1_1 (grid1.coords t) → cfg1.idle 4 (grid1.coords t) = false := by decide +kernel

/-! ## The kernel body on any staging memrefs: a subtype the run finds -/

/-- One staging buffer of output window 4, through which its contents are stated (`View.read_writes_of_cover`: the
    choice does not matter). -/
abbrev VO1_4 : View sig .tc .vmem S1024x2048 .bf16 := (Memref.whole cc1_stg4_0 : Memref sig .tc .vmem S1024x2048 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x2048 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S1024x2048 .f32 := Memref.whole cc1_scratch0
/-- The scratch `arg8` the kernel carries between points, as a view: what it holds is stated through it. -/
abbrev VS1_0 : View sig .tc .vmem S1024x2048 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, 8, 12, 16, 20), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) :
    Σ' (L4 : List (View.Piece (Elt F) S1024x2048 .bf16)), { LS0 : List (View.Piece (Elt F) S1024x2048 .f32) //
      ∀ (xi4 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_ffn2 i arg3 harg3 arg4 harg4 arg5 harg5 arg6 harg6 arg7 harg7 arg8 harg8) K } := by
  refine ⟨[], ?_, fun xi4 E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case A stores nothing into output 4 (the window is idle at its points and not written back there):
    no pieces — a placeholder (junk read back) that nothing consults, since at these points the window is neither
    written back nor read at the next point (Lib/Pipeline.lean "Idle points"). -/
def out1_A_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) : Vec F S1024x2048 .bf16 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for scratch `arg8`, which the kernel carries between points, cover it: 2 pieces of `S1024x2048` tiling it (Lib/Ring.lean `Piece.tiledL`). -/
theorem scover1_A_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) (y : S1024x2048.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x2048.size (by sl_kernel_rfl) y

/-- What case A leaves in scratch `arg8`: its pieces read back over junk. -/
def sout1_A_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec F S1024x4096 .bf16) (x1 : Vec F S4096x2048 .fp8e4m3) (x2 : Vec F S1x2048 .f32) (x3 : Vec F S1x2048 .f32) : Vec F S1024x2048 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 12 of 24), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) :
    Σ' (L4 : List (View.Piece (Elt F) S1024x2048 .bf16)), { LS0 : List (View.Piece (Elt F) S1024x2048 .f32) //
      ∀ (xi4 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_ffn2 i arg3 harg3 arg4 harg4 arg5 harg5 arg6 harg6 arg7 harg7 arg8 harg8) K } := by
  refine ⟨[], ?_, fun xi4 E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case B stores nothing into output 4 (the window is idle at its points and not written back there):
    no pieces — a placeholder (junk read back) that nothing consults, since at these points the window is neither
    written back nor read at the next point (Lib/Pipeline.lean "Idle points"). -/
def out1_B_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .bf16 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for scratch `arg8`, which the kernel carries between points, cover it: 1 piece of `S1024x2048` tiling it (Lib/Ring.lean `Piece.tiledL`). -/
theorem scover1_B_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) (y : S1024x2048.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x2048.size (by sl_kernel_rfl) y

/-- What case B leaves in scratch `arg8`: its pieces read back over junk. -/
def sout1_B_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3, 7, 11, 15, 19, 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) :
    Σ' (L4 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_ffn2 i arg3 harg3 arg4 harg4 arg5 harg5 arg6 harg6 arg7 harg7 arg8 harg8) K } := by
  refine ⟨?_, ?_, fun E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-- Case C's pieces for output 4 tile its block (1 store of `S1024x2048`, checked by the kernel's evaluation: Lib/Ring.lean `Piece.tiledL`, linear in the pieces, through a loop's `@[irreducible]` trip theorem too), so they cover it. -/
theorem cover1_C_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x2048.size (by sl_kernel_rfl) y

/-- What case C leaves in output 4's staging buffer: its pieces read back over junk. -/
def out1_C_4 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for scratch `arg8`, which the kernel carries between points, cover it: 1 piece of `S1024x2048` tiling it (Lib/Ring.lean `Piece.tiledL`). -/
theorem scover1_C_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x2048.size (by sl_kernel_rfl) y

/-- What case C leaves in scratch `arg8`: its pieces read back over junk. -/
def sout1_C_0 (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec F S1024x4096 .bf16) (x1 : Vec F S4096x2048 .fp8e4m3) (x2 : Vec F S1x2048 .f32) (x3 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x2048 .bf16 × Vec F S1024x2048 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by have hN : n + 1 < 24 := lt_of_lt_of_eq hn (show cfg1.N = 24 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 24 := lt_of_lt_of_eq t.isLt (show cfg1.N = 24 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        rw [outsAt1_A V c t h0 h1]
        unfold sout1_A_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1)], after1_4]
      by_cases hz : t.val = 0
      · exfalso; have hN : t.val < 24 := lt_of_lt_of_eq t.isLt (show cfg1.N = 24 from N_1); omega
      · rw [PhiS_castSucc V c t, PhiS_pos V c _ _ hz]
        rw [outsAt1_C V c t h0 h1]
        unfold out1_C_4 sout1_C_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      by_cases hz : t.val = 0
      · exfalso; have hN : t.val < 24 := lt_of_lt_of_eq t.isLt (show cfg1.N = 24 from N_1); omega
      · rw [PhiS_castSucc V c t, PhiS_pos V c _ _ hz]
        rw [outsAt1_B V c t h0 h1]
        unfold sout1_B_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 24 := N_1; omega)

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_c, main_v5, main_v6, main_c_0, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19, main_v20]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : _ ⊢ (pdats m ρ 1 c).Φ 0 := Gen.hin (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ _ := Gen.hout (V3 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_FfnIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.FfnIdeal.Gen

end
-- ==== Proof.Nodes.Block.lean ====
module

public import proofs.«01_k».proof.Proof.Gen.NodesIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NodesIdeal.Nodes

open Cert.NodesIdeal Cert.NodesIdeal.Gen

/-- Byte `j` of a word, sign-extended: what the kernel's two shifts leave. -/
def byteOf (j : Nat) (w : BitVec 32) : BitVec 32 :=
  (w <<< (24 - 8 * j)).sshiftRight 24

/-- The block's codes: column `k` of row `r` is byte `k / 128 % 4` of lane `k % 128` of word row `8 * r + k / 512`. -/
def unpacked (x : IVec S4096x128 32) : FVec Ideal S512x4096 .bf16 := fun y =>
  (((byteOf ((y 1).val / 128 % 4)
    (x (ValueIdx.ix2
      ⟨8 * (y 0).val + (y 1).val / 512, by have := (y 0).isLt; have := (y 1).isLt; simp [Shape.size] at *; omega⟩
      ⟨(y 1).val % 128, by omega⟩))).toInt : ℝ) : EReal)

theorem byte_0 (w : BitVec 32) :
    IntOp.shrsi .vector (IntOp.shli .vector w 24#32) 24#32 = byteOf 0 w := rfl
theorem byte_1 (w : BitVec 32) :
    IntOp.shrsi .vector (IntOp.shli .vector w 16#32) 24#32 = byteOf 1 w := rfl
theorem byte_2 (w : BitVec 32) :
    IntOp.shrsi .vector (IntOp.shli .vector w 8#32) 24#32 = byteOf 2 w := rfl
theorem byte_3 (w : BitVec 32) : IntOp.shrsi .vector w 24#32 = byteOf 3 w := by
  simp [IntOp.shrsi, byteOf]

theorem unpacked_at (x0 : Vec Ideal S4096x128 .i32) (y : S512x4096.Idx) (j : Nat)
    (p : S4096x128.Idx) (hj : (y 1).val / 128 % 4 = j) (h0 : (p 0).val = 8 * (y 0).val + (y 1).val / 512)
    (h1 : (p 1).val = (y 1).val % 128) :
    (FloatOps.sitofp .f32 (byteOf j (x0 p)) : Ideal .f32) = unpacked x0 y := by
  subst hj
  have hp : p = ValueIdx.ix2
      ⟨8 * (y 0).val + (y 1).val / 512, by have := (y 0).isLt; have := (y 1).isLt; simp [Shape.size] at *; omega⟩
      ⟨(y 1).val % 128, by omega⟩ := by
    funext a
    fin_cases a
    · exact Fin.ext h0
    · exact Fin.ext h1
  rw [hp]
  rfl

theorem scratch_at (c : Dev nD) (i : grid0.Coords) (arg2 : Memref sig .tc .vmem S4096x128 .i32) (harg2 : arg2.IsWhole) (arg3 : Memref sig .tc .vmem S512x128 .f32) (harg3 : arg3.IsWhole) (arg4 : Memref sig .tc .vmem S4096x6144 .fp8e4m3) (harg4 : arg4.IsWhole) (arg5 : Memref sig .tc .vmem S512x3072 .f32) (harg5 : arg5.IsWhole) (arg6 : Memref sig .tc .vmem S512x4096 .bf16) (harg6 : arg6.IsWhole) (hc0 : cond0_0 i)
    (x0 : Vec Ideal S4096x128 .i32) (x1 : Vec Ideal S512x128 .f32) (x2 : Vec Ideal S4096x6144 .fp8e4m3) (y : S512x4096.Idx) :
    sout0_A_0 c i arg2 harg2 arg3 harg3 arg4 harg4 arg5 harg5 arg6 harg6 hc0 x0 x1 x2 y = unpacked x0 y := by
  frame_out
  canon_tiles x h
  all_goals
    open_payloads
    pointwise
    try simp only [byte_0, byte_1, byte_2]
    try rw [byte_3]
    rw [View.readAt_apply, harg2.read_unread]
    refine unpacked_at x0 y _ _ (by omega) ?_ ?_ <;> simp [LoadRect.idx] <;> omega

theorem off1_0 (i : grid0.Coords) : k0_off1 i 0#32 = ![0, 3072 * (i 1).val] := k0_off1_eq i 0
theorem off1_1 (i : grid0.Coords) : k0_off1 i 512#32 = ![0, 3072 * (i 1).val + 512] := k0_off1_eq i 1
theorem off1_2 (i : grid0.Coords) : k0_off1 i 1024#32 = ![0, 3072 * (i 1).val + 1024] := k0_off1_eq i 2
theorem off1_3 (i : grid0.Coords) : k0_off1 i 1536#32 = ![0, 3072 * (i 1).val + 1536] := k0_off1_eq i 3
theorem off1_4 (i : grid0.Coords) : k0_off1 i 2048#32 = ![0, 3072 * (i 1).val + 2048] := k0_off1_eq i 4
theorem off1_5 (i : grid0.Coords) : k0_off1 i 2560#32 = ![0, 3072 * (i 1).val + 2560] := k0_off1_eq i 5

/-- The product of a block of codes with the columns of `w` a grid point covers, scaled by row. -/
def product (i : grid0.Coords) (X : FVec Ideal S512x4096 .bf16) (w : FVec Ideal S4096x6144 .fp8e4m3)
    (s : FVec Ideal S512x128 .f32) : FVec Ideal S512x3072 .f32 := fun y =>
  (∑ k : Fin 4096, X (ValueIdx.ix2 ⟨(y 0).val, (y 0).isLt⟩ k)
      * w (ValueIdx.ix2 k ⟨3072 * (i 1).val + (y 1).val, by
        have := (y 1).isLt; have : (i 1).val < 2 := (i 1).isLt; simp [Shape.size] at *; omega⟩))
    * s (ValueIdx.ix2 ⟨(y 0).val, (y 0).isLt⟩ ⟨(y 1).val % 128, by omega⟩)

theorem outB_at (c : Dev nD) (i : grid0.Coords) (arg2 : Memref sig .tc .vmem S4096x128 .i32) (harg2 : arg2.IsWhole) (arg3 : Memref sig .tc .vmem S512x128 .f32) (harg3 : arg3.IsWhole) (arg4 : Memref sig .tc .vmem S4096x6144 .fp8e4m3) (harg4 : arg4.IsWhole) (arg5 : Memref sig .tc .vmem S512x3072 .f32) (harg5 : arg5.IsWhole) (arg6 : Memref sig .tc .vmem S512x4096 .bf16) (harg6 : arg6.IsWhole) (hc0 : ¬ cond0_0 i)
    (x0 : Vec Ideal S4096x128 .i32) (x1 : Vec Ideal S512x128 .f32) (x2 : Vec Ideal S4096x6144 .fp8e4m3) (xs0 : Vec Ideal S512x4096 .bf16) (y : S512x3072.Idx) :
    out0_B_3 c i arg2 harg2 arg3 harg3 arg4 harg4 arg5 harg5 arg6 harg6 hc0 x0 x1 x2 xs0 y = product i xs0 x2 x1 y := by
  frame_out
  canon_tiles x h
  all_goals
    open_payloads
    pointwise
    unfold product
    blk_point [off1_0 i, off1_1 i, off1_2 i, off1_3 i, off1_4 i, off1_5 i]

theorem outA_at (c : Dev nD) (i : grid0.Coords) (arg2 : Memref sig .tc .vmem S4096x128 .i32) (harg2 : arg2.IsWhole) (arg3 : Memref sig .tc .vmem S512x128 .f32) (harg3 : arg3.IsWhole) (arg4 : Memref sig .tc .vmem S4096x6144 .fp8e4m3) (harg4 : arg4.IsWhole) (arg5 : Memref sig .tc .vmem S512x3072 .f32) (harg5 : arg5.IsWhole) (arg6 : Memref sig .tc .vmem S512x4096 .bf16) (harg6 : arg6.IsWhole) (hc0 : cond0_0 i)
    (x0 : Vec Ideal S4096x128 .i32) (x1 : Vec Ideal S512x128 .f32) (x2 : Vec Ideal S4096x6144 .fp8e4m3) (y : S512x3072.Idx) :
    out0_A_3 c i arg2 harg2 arg3 harg3 arg4 harg4 arg5 harg5 arg6 harg6 hc0 x0 x1 x2 y = product i (unpacked x0) x2 x1 y := by
  have hs : ∀ z, sout0_A_0 c i arg2 harg2 arg3 harg3 arg4 harg4 arg5 harg5 arg6 harg6 hc0 x0 x1 x2 z = unpacked x0 z :=
    fun z => scratch_at c i arg2 harg2 arg3 harg3 arg4 harg4 arg5 harg5 arg6 harg6 hc0 x0 x1 x2 z
  have hs := funext hs
  frame_out at hs
  frame_out
  canon_tiles x h
  all_goals
    simp only [View.readCov_eq_canon']
    rw [hs]
    open_payloads
    pointwise
    unfold product
    blk_point [off1_0 i, off1_1 i, off1_2 i, off1_3 i, off1_4 i, off1_5 i]

end Cert.NodesIdeal.Nodes

end
-- ==== Proof.Nodes.Run.lean ====
/- What the node call leaves in its output array, from the arrays it finds. -/
module

public import proofs.«01_k».proof.Proof.Nodes.Block

@[expose] public section

set_option maxRecDepth 16384

noncomputable section

open Idealize.ShloMosaic Idealize.ShloMosaic.TcCoe Idealize.SL.Sem
open Idealize.ShloMosaic.Pipeline (Dat)

namespace Cert.NodesIdeal.Nodes

open Cert.NodesIdeal Cert.NodesIdeal.Gen

variable (m : (ℓ : Loc nD τ sig) → Buf (Elt Ideal) ℓ)

/-- The index maps, and the second coordinate, at every point. -/
theorem idx : ∀ t : Fin cfg0.N, win0_0.index t = ![t.val / 2, 0] ∧ win0_1.index t = ![t.val / 2, 0]
    ∧ win0_2.index t = ![0, 0] ∧ win0_3.index t = ![t.val / 2, t.val % 2] ∧ (grid0.coords t 1).val = t.val % 2 :=
  (by decide +kernel : ∀ t : Fin grid0.N, _)

/-- Two neighbouring points of one row block read the same words. -/
theorem words_prev (c : Dev nD) (t : Fin cfg0.N) (h : ¬ t.val % 2 = 0) :
    iblk m c 0 ⟨t.val - 1, Nat.lt_of_le_of_lt (Nat.sub_le _ _) t.isLt⟩ = iblk m c 0 t := by
  have e := (idx ⟨t.val - 1, Nat.lt_of_le_of_lt (Nat.sub_le _ _) t.isLt⟩).1
  have e' := (idx t).1
  have d : (t.val - 1) / 2 = t.val / 2 := by omega
  blk_ext! [iblk, e, e', d]

theorem unpacked_ix2 (x : IVec S4096x128 32) (r : Fin 512) (k : Fin 4096) : unpacked x (ValueIdx.ix2 r k)
    = (((byteOf (k.val / 128 % 4) (x (ValueIdx.ix2 ⟨8 * r.val + k.val / 512, by omega⟩
      ⟨k.val % 128, by omega⟩))).toInt : ℝ) : EReal) := rfl

/-- The first point of a row block leaves its codes in the scratch; -/
theorem scratch_even (c : Dev nD) (t : Fin cfg0.N) (h : t.val % 2 = 0) :
    (outsAt0 m c t.val t.isLt).2 = unpacked (iblk m c 0 t) := by
  funext z
  rw [outsAt0_A m c t h]
  dsimp only
  rw [scratch_at]

/-- the second finds them there. -/
theorem scratch_prev (c : Dev nD) (t : Fin cfg0.N) (h : ¬ t.val % 2 = 0) :
    (outsAt0 m c (t.val - 1) (Nat.lt_of_le_of_lt (Nat.sub_le _ _) t.isLt)).2 = unpacked (iblk m c 0 t) :=
  (scratch_even m c ⟨t.val - 1, Nat.lt_of_le_of_lt (Nat.sub_le _ _) t.isLt⟩
    (by show (t.val - 1) % 2 = 0; omega)).trans (congrArg unpacked (words_prev m c t h))

/-- A point leaves the product of its own block of codes. -/
theorem left (c : Dev nD) (t : Fin cfg0.N) (y : S512x3072.Idx) : (outsAt0 m c t.val t.isLt).1 y
    = product (grid0.coords t) (unpacked (iblk m c 0 t)) (iblk m c 2 t) (iblk m c 1 t) y := by
  by_cases h : t.val % 2 = 0
  · rw [outsAt0_A m c t h]
    dsimp only
    rw [outA_at]
  · rw [outsAt0_B m c t h]
    dsimp only
    rw [outB_at, scratch_prev m c t h]

/-- The array of products: row `n`'s codes against every column, times the row's scale. -/
def nodeArr (x : IVec S327680x128 32) (w : FVec Ideal S4096x6144 .fp8e4m3) (s : FVec Ideal S40960x128 .f32) :
    FVec Ideal S40960x6144 .f32 := fun y =>
  (∑ k : Fin 4096, (((byteOf (k.val / 128 % 4)
        (x (ValueIdx.ix2 ⟨8 * (y 0).val + k.val / 512, by have := (y 0).isLt; simp [Shape.size] at *; omega⟩
          ⟨k.val % 128, by omega⟩))).toInt : ℝ) : EReal)
      * w (ValueIdx.ix2 k ⟨(y 1).val, (y 1).isLt⟩))
    * s (ValueIdx.ix2 ⟨(y 0).val, (y 0).isLt⟩ ⟨(y 1).val % 128, by omega⟩)

/-- After the call the rows of the first 79 blocks hold the products. -/
theorem final (c : Dev nD) (y : S40960x6144.Idx) (hy : (y 0).val < 40448) : (dats m 0 c).arrAt 3 cfg0.N y
    = nodeArr (V m c main_v12) (V m c main_v11) (V m c main_v13) y := by
  refine ((dats m 0 c).arrAt_apply_of_coversWhere 3 (nodeArr (V m c main_v12) (V m c main_v11) (V m c main_v13))
    (P := fun i => (i 0).val < 40448) (fun β => β 0 < 79) (by decide +kernel) (fun t hf y => ?_)
    (fun j => by blk_simp [Pipeline.Window.cell_apply]; omega) y).trans (if_pos hy)
  blk_simp
  rw [after0_3]
  refine (left m c t _).trans ?_
  unfold product nodeArr
  simp only [unpacked_ix2]
  obtain ⟨e0, e1, e2, e3, e4⟩ := idx t
  blk_point [iblk, e0, e1, e2, e3, e4]

end Cert.NodesIdeal.Nodes

end
-- ==== Proof.Nodes.Entry.lean ====
/- The node call's run: the words and scales it finds (the codes' bytes, four lane groups to a word, and the row scales),
   and what its result array holds at the end. -/
module

public import proofs.«01_k».proof.Proof.Nodes.Run
public import Idealize.ShloMosaic.Lib.BitcastConvert
import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NodesIdeal.Nodes

open Cert.NodesIdeal Cert.NodesIdeal.Gen

variable (m : (ℓ : Loc nD τ sig) → Buf (Elt Ideal) ℓ)

/-- The two shifts leave the byte, sign-extended. -/
theorem byteOf_eq (j : Nat) (hj : j < 4) (w : BitVec 32) : byteOf j w = (w.extractLsb' (8 * j) 8).signExtend 32 := by
  unfold byteOf
  apply BitVec.eq_of_getLsbD_eq
  intro q hq
  rw [BitVec.getLsbD_sshiftRight, BitVec.getLsbD_signExtend, BitVec.getLsbD_extractLsb', BitVec.msb_eq_getLsbD_last,
    BitVec.msb_eq_getLsbD_last]
  simp only [BitVec.getLsbD_shiftLeft, BitVec.getLsbD_extractLsb']
  by_cases h : q < 8
  · have e : 24 + q - (24 - 8 * j) = 8 * j + q := by omega
    have l : ¬ 24 + q < 24 - 8 * j := by omega
    simp [h, e, l, hq, show 24 + q < 32 by omega]
  · have e : 31 - (24 - 8 * j) = 8 * j + 7 := by omega
    have l : ¬ 31 < 24 - 8 * j := by omega
    simp [h, e, l, hq, show ¬ 24 + q < 32 by omega]

/-- The codes as words: byte `j` of word row `8 * n + r`, lane `l`, is the code of row `n` in column `512 * r + 128 * j + l`. -/
def words (codes : IVec S40960x4096 8) : IVec S327680x128 32 :=
  shapeCast S327680x128 (Host.bitcastConvertWiden S40960x8x128 32
      (transpose S40960x8x128x4 [0, 1, 3, 2]
        (shapeCast S40960x8x4x128 codes shapeCasts_S40960x4096_S40960x8x4x128)
        transposes_S40960x8x4x128_S40960x8x128x4_0_1_3_2)
      splits_S40960x8x128_w32_S40960x8x128x4_w8) shapeCasts_S40960x8x128_S327680x128

/-- A row's scale in every lane. -/
def lanes (scales : FVec Ideal S40960 .f32) : FVec Ideal S40960x128 .f32 :=
  shapeCast S40960x128
    (broadcastInDim S40960x1x128 ![0, 1, 2] bcast_S40960x1x1_S40960x1x128_0_1_2
      (broadcastInDim S40960x1x1 ![0] bcast_S40960_S40960x1x1_0 scales)) shapeCasts_S40960x1x128_S40960x128

/-- The codes and the scales with the rows past the nodes filled with zeros. -/
def padCodes (codes : IVec S40000x4096 8) : IVec S40960x4096 8 :=
  pad S40960x4096 ![0, 0] ![960, 0] ![0, 0] codes (constantI S_ 8 0#8) pads_S40000x4096_S40960x4096_09600_000 h_S_

def padScales (scales : FVec Ideal S40000 .f32) : FVec Ideal S40960 .f32 :=
  pad S40960 ![0] ![960] ![0] scales (constant S_ .f32 0x00000000#32) pads_S40000_S40960_09600 h_S_

/-- The weights that face the codes, keys before values, in each the heads moved behind the coordinates within a head. -/
def cols (w : FVec Ideal S4296x2x3072 .fp8e4m3) : FVec Ideal S4096x6144 .fp8e4m3 :=
  extractStridedSlice S4096x6144 ![0, 0]
    (shapeCast S4296x6144
      (shapeCast S4296x2x3072
        (transpose S4296x2x96x32 [0, 1, 3, 2] (shapeCast S4296x2x32x96 w shapeCasts_S4296x2x3072_S4296x2x32x96)
          transposes_S4296x2x32x96_S4296x2x96x32_0_1_3_2) shapeCasts_S4296x2x96x32_S4296x2x3072)
      shapeCasts_S4296x2x3072_S4296x6144) slices_S4296x6144_S4096x6144_0_0

theorem words_eq (c : Dev nD) : V m c main_v12 = words (padCodes (m ((c.tc : Thread nD τ).loc main_arg0))) := by
  show StableHlo.after [hostOps0].flatten (fun b => m (c, b)) (Proc.tc.devRef main_v12) = _
  entry_read
  rfl

theorem scales_eq (c : Dev nD) : V m c main_v13 = lanes (padScales (m ((c.tc : Thread nD τ).loc main_arg1))) := by
  show StableHlo.after [hostOps0].flatten (fun b => m (c, b)) (Proc.tc.devRef main_v13) = _
  entry_read
  rfl

theorem w_eq (c : Dev nD) : V m c main_v11 = cols (m ((c.tc : Thread nD τ).loc main_arg2)) := by
  show StableHlo.after [hostOps0].flatten (fun b => m (c, b)) (Proc.tc.devRef main_v11) = _
  entry_read
  rfl

theorem padCodes_at (codes : IVec S40000x4096 8) (n : Fin 40000) (k : Fin 4096) :
    padCodes codes (ValueIdx.ix2 ⟨n.val, by omega⟩ k) = codes (ValueIdx.ix2 n k) := by
  unfold padCodes
  pointwise
  rfl

theorem padScales_at (scales : FVec Ideal S40000 .f32) (n : Fin 40000) :
    padScales scales (ValueIdx.ix1 ⟨n.val, by omega⟩) = scales (ValueIdx.ix1 n) := by
  unfold padScales
  pointwise
  rfl

theorem cols_at (w : FVec Ideal S4296x2x3072 .fp8e4m3) (k : Fin 4096) (j : Fin 6144) :
    cols w (ValueIdx.ix2 k j)
      = w (ValueIdx.ix3 ⟨k.val, by omega⟩ ⟨j.val / 3072, by omega⟩ ⟨j.val % 32 * 96 + j.val / 32 % 96, by omega⟩) := by
  unfold cols
  pointwise
  rfl

theorem lanes_at (scales : FVec Ideal S40960 .f32) (n : Fin 40960) (l : Fin 128) :
    lanes scales (ValueIdx.ix2 n l) = scales (ValueIdx.ix1 n) := by
  unfold lanes
  pointwise
  rfl

/-- An index with its part appended. -/
theorem snoc_ix (a : Fin 40960) (b : Fin 8) (l : Fin 128) (p : Fin 4) :
    splits_S40960x8x128_w32_S40960x8x128x4_w8.snoc (ValueIdx.ix3 a b l) p = ValueIdx.ix4 a b l p := by
  funext x
  apply Fin.ext
  fin_cases x
  · exact Shape.SplitsWords.snoc_apply_val_of_lt splits_S40960x8x128_w32_S40960x8x128x4_w8 (ValueIdx.ix3 a b l) p (0 : Fin 4) (by decide)
  · exact Shape.SplitsWords.snoc_apply_val_of_lt splits_S40960x8x128_w32_S40960x8x128x4_w8 (ValueIdx.ix3 a b l) p (1 : Fin 4) (by decide)
  · exact Shape.SplitsWords.snoc_apply_val_of_lt splits_S40960x8x128_w32_S40960x8x128x4_w8 (ValueIdx.ix3 a b l) p (2 : Fin 4) (by decide)
  · exact congrArg Fin.val (Shape.SplitsWords.snoc_axis splits_S40960x8x128_w32_S40960x8x128x4_w8 (ValueIdx.ix3 a b l) p)

/-- The codes with the four lane groups of a word innermost. -/
def parts (codes : IVec S40960x4096 8) : IVec S40960x8x128x4 8 :=
  transpose S40960x8x128x4 [0, 1, 3, 2] (shapeCast S40960x8x4x128 codes shapeCasts_S40960x4096_S40960x8x4x128)
    transposes_S40960x8x4x128_S40960x8x128x4_0_1_3_2

theorem parts_at (codes : IVec S40960x4096 8) (a : Fin 40960) (b : Fin 8) (l : Fin 128) (p : Fin 4) :
    parts codes (ValueIdx.ix4 a b l p) = codes (ValueIdx.ix2 a ⟨512 * b.val + 128 * p.val + l.val, by omega⟩) := by
  unfold parts
  pointwise
  refine congrArg codes ?_
  funext x
  apply Fin.ext
  fin_cases x
  · rfl
  · show b.val * 512 + p.val * 128 + l.val = 512 * b.val + 128 * p.val + l.val
    omega

/-- A word's byte. -/
theorem widen_byte (codes : IVec S40960x4096 8) (a : Fin 40960) (b : Fin 8) (l : Fin 128) (p : Fin 4) :
    (Host.bitcastConvertWiden S40960x8x128 32 (parts codes) splits_S40960x8x128_w32_S40960x8x128x4_w8
      (ValueIdx.ix3 a b l)).extractLsb' (8 * p.val) 8
      = codes (ValueIdx.ix2 a ⟨512 * b.val + 128 * p.val + l.val, by omega⟩) := by
  apply BitVec.eq_of_getLsbD_eq
  intro q hq
  have d : (⟨(8 * p.val + q) / 8, by show _ < 4; omega⟩ : Fin 4) = p := Fin.ext (by show (8 * p.val + q) / 8 = p.val; omega)
  rw [BitVec.getLsbD_extractLsb', Host.bitcastConvertWiden_getLsbD _ _ _ _ _ _ (by omega),
    show (8 * p.val + q) % 8 = q by omega, ← parts_at codes a b l p, ← snoc_ix a b l p]
  simp only [hq, decide_true, Bool.true_and]
  exact congrArg (fun z : Fin 4 => (parts codes (splits_S40960x8x128_w32_S40960x8x128x4_w8.snoc (ValueIdx.ix3 a b l) z)).getLsbD q) d

theorem word_at (codes : IVec S40960x4096 8) (n : Fin 40960) (k : Fin 4096) :
    words codes (ValueIdx.ix2 ⟨8 * n.val + k.val / 512, by omega⟩ ⟨k.val % 128, by omega⟩)
      = Host.bitcastConvertWiden S40960x8x128 32 (parts codes) splits_S40960x8x128_w32_S40960x8x128x4_w8
        (ValueIdx.ix3 n ⟨k.val / 512, by omega⟩ ⟨k.val % 128, by omega⟩) := by
  unfold words
  pointwise
  refine congrArg (Host.bitcastConvertWiden S40960x8x128 32 (parts codes) splits_S40960x8x128_w32_S40960x8x128x4_w8) ?_
  funext x
  apply Fin.ext
  fin_cases x
  · show (8 * n.val + k.val / 512) / 8 = n.val
    omega
  · show (8 * n.val + k.val / 512) % 8 = k.val / 512
    omega
  · rfl

theorem word_byte (codes : IVec S40960x4096 8) (n : Fin 40960) (k : Fin 4096) :
    byteOf (k.val / 128 % 4) (words codes (ValueIdx.ix2 ⟨8 * n.val + k.val / 512, by omega⟩ ⟨k.val % 128, by omega⟩))
      = (codes (ValueIdx.ix2 n k)).signExtend 32 := by
  rw [byteOf_eq _ (by omega), word_at]
  refine congrArg (BitVec.signExtend 32) ((widen_byte codes n ⟨k.val / 512, by omega⟩ ⟨k.val % 128, by omega⟩
    ⟨k.val / 128 % 4, by omega⟩).trans (congrArg (fun z => codes (ValueIdx.ix2 n z)) (Fin.ext ?_)))
  show 512 * (k.val / 512) + 128 * (k.val / 128 % 4) + k.val % 128 = k.val
  omega

/-- The keys and values of the nodes from the codes: the products of the codes with the weights, each row times its scale.
    Column `3072 * p + 32 * d + h` is coordinate `d` of head `h` of the key (`p = 0`) or the value (`p = 1`). -/
def scaled (codes : IVec S40000x4096 8) (scales : FVec Ideal S40000 .f32) (w : FVec Ideal S4296x2x3072 .fp8e4m3) :
    FVec Ideal S40000x6144 .f32 := fun y =>
  (∑ k : Fin 4096, (((codes (ValueIdx.ix2 (⟨(y 0).val, (y 0).isLt⟩ : Fin 40000) k)).toInt : ℝ) : EReal)
      * w (ValueIdx.ix3 (⟨k.val, by omega⟩ : Fin 4296) (⟨(y 1).val / 3072, by have : (y 1).val < 6144 := (y 1).isLt; omega⟩ : Fin 2)
          (⟨(y 1).val % 32 * 96 + (y 1).val / 32 % 96, by omega⟩ : Fin 3072)))
    * scales (ValueIdx.ix1 (⟨(y 0).val, (y 0).isLt⟩ : Fin 40000))

/-- The call's first 40000 rows are the scaled products. -/
theorem rows_eq (c : Dev nD) : extractStridedSlice S40000x6144 ![0, 0] ((dats m 0 c).arrAt 3 cfg0.N) slices_S40960x6144_S40000x6144_0_0
    = scaled (m ((c.tc : Thread nD τ).loc main_arg0)) (m ((c.tc : Thread nD τ).loc main_arg1)) (m ((c.tc : Thread nD τ).loc main_arg2)) := by
  funext y
  have h0 : (y 0).val < 40000 := (y 0).isLt
  have h1 : (y 1).val < 6144 := (y 1).isLt
  refine Eq.trans (b := (dats m 0 c).arrAt 3 cfg0.N (ValueIdx.ix2 (⟨(y 0).val, by omega⟩ : Fin 40960) (⟨(y 1).val, h1⟩ : Fin 6144))) ?_ ?_
  · pointwise
    rfl
  rw [final m c _ (by show (y 0).val < 40448; omega), words_eq, scales_eq, w_eq]
  unfold nodeArr scaled
  refine congrArg₂ (· * ·) (Finset.sum_congr rfl fun k _ => congrArg₂ (· * ·) ?_ ?_) ?_
  · refine (congrArg (fun z : BitVec 32 => ((z.toInt : ℝ) : EReal))
      (word_byte (padCodes (m ((c.tc : Thread nD τ).loc main_arg0))) ⟨(y 0).val, by omega⟩ k)).trans ?_
    dsimp only
    rw [BitVec.toInt_signExtend_of_le (by decide)]
    exact congrArg (fun z : BitVec 8 => ((z.toInt : ℝ) : EReal)) (padCodes_at _ ⟨(y 0).val, h0⟩ k)
  · exact cols_at _ k ⟨(y 1).val, h1⟩
  · exact (lanes_at _ ⟨(y 0).val, by omega⟩ ⟨(y 1).val % 128, by omega⟩).trans (padScales_at _ ⟨(y 0).val, h0⟩)

/-- The result array ends at the scaled products. -/
theorem last (c : Dev nD) : Pipeline.afterTail₀ cfgs (dats m) 0 (V0 m) [hostOps1] c main_v15
    = scaled (m ((c.tc : Thread nD τ).loc main_arg0)) (m ((c.tc : Thread nD τ).loc main_arg1)) (m ((c.tc : Thread nD τ).loc main_arg2)) := by
  unfold Pipeline.afterTail₀
  have e : StableHlo.after hostOps1 (Pipeline.withArrays (cfgs 0).spec c (V0 m c) fun w => (dats m 0 c).arrAt w (cfgs 0).N)
      (Proc.devRef .tc main_v15)
      = extractStridedSlice S40000x6144 ![0, 0] (Pipeline.withArrays (cfgs 0).spec c (V0 m c) (fun w => (dats m 0 c).arrAt w (cfgs 0).N)
          (Proc.devRef .tc main_v14)) slices_S40960x6144_S40000x6144_0_0 := by
    entry_read
    rfl
  have e14 : Pipeline.withArrays (cfgs 0).spec c (V0 m c) (fun w => (dats m 0 c).arrAt w (cfgs 0).N) (Proc.devRef .tc main_v14)
      = (dats m 0 c).arrAt 3 cfg0.N := Pipeline.withArrays_arr spec0 (by decide) c (V0 m c) _ 3
  refine e.trans ?_
  rw [e14]
  exact rows_eq m c

/-- The run: the result array at the scaled products, the arguments unchanged. -/
theorem run (ρ : Dev nD → PrngReg) : θ_run defs (onTc (τ := τ) (main (F := Ideal))) ⟨m, fun _ => 0, ρ⟩
    (fun r => ∀ c : Dev nD,
      r.2.mem ((c.tc : Thread nD τ).loc main_v15)
        = scaled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(((h.1 c).2 main_v15 (Pipeline.mem_restRefs_of main_v15 (by decide) (by decide))).trans (last m c)), h.2 c⟩)
    (θ_run_and (run_main m ρ) (unchanged m ρ))

end Cert.NodesIdeal.Nodes

end
-- ==== Proof.Nodes.Reference.lean ====
/- The node reference: what its one call leaves in the result array. -/
module

public import proofs.«01_k».proof.Proof.Gen.NodesRefIdeal.Frame
public import proofs.«01_k».proof.Proof.Nodes.Entry
public import Idealize.ShloMosaic.Lib.Pipeline.ValueKit
import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NodesRefIdeal.Nodes

open Cert.NodesRefIdeal Cert.NodesRefIdeal.Gen
open Cert.NodesIdeal.Nodes (scaled)

variable (m : (ℓ : Loc nD τ sig) → Buf (Elt Ideal) ℓ)

/-- The products of an array of codes with `w`, each row times its scale. -/
def prods (X : IVec S40000x4096 8) (s : FVec Ideal S40000x1 .f32) (w : FVec Ideal S4096x6144 .fp8e4m3) :
    FVec Ideal S40000x6144 .f32 := fun j =>
  (∑ k : Fin 4096, (((X (ValueIdx.ix2 ⟨(j 0).val, (j 0).isLt⟩ k)).toInt : ℝ) : EReal) * w (ValueIdx.ix2 k ⟨(j 1).val, (j 1).isLt⟩))
    * s (ValueIdx.ix2 ⟨(j 0).val, (j 0).isLt⟩ 0)

/-- The reference's own lines are that function. -/
theorem payload (X : Vec Ideal S40000x4096 .i8) (s : Vec Ideal S40000x1 .f32) (w : Vec Ideal S4096x6144 .fp8e4m3) (j : S40000x6144.Idx) :
    k0_pay1 (F := Ideal) (View.ld X r0_0) (View.ld w r0_1) (View.ld s r0_2) j = prods X s w j := by
  pointwise [k0_pay1, prods]
  rfl

/-- The index maps at the one point. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- Its one point reads every operand whole. -/
theorem whole (c : Dev nD) (t : Fin cfg0.N) : iblk m c 0 t = V m c main_arg0
    ∧ iblk m c 1 t = V m c main_v0
    ∧ iblk m c 2 t = V m c main_v2 := by
  refine ⟨?_, ?_, ?_⟩ <;> blk_ext! [iblk, idx t]

/-- After its call the result array is that function of the arrays found. -/
theorem final (c : Dev nD) : (dats m 0 c).arrAt 3 cfg0.N = prods (V m c main_arg0) (V m c main_v0) (V m c main_v2) := by
  refine (dats m 0 c).arrAt_eq_of_covers 3 _ (by decide +kernel) fun t _ y => ?_
  blk_simp
  rw [after0_3]
  unfold out0_3
  canon_tiles x h
  obtain ⟨e0, e1, e2⟩ := whole m c t
  rw [e0, e1, e2]
  refine (payload _ _ _ x).trans (congrArg (prods _ _ _) ?_)
  clear e0 e1 e2
  blk_ext [idx t]

/-- The weights that face the codes, keys before values. -/
def cols (w : FVec Ideal S4296x2x3072 .fp8e4m3) : FVec Ideal S4096x6144 .fp8e4m3 :=
  shapeCast S4096x6144 (extractStridedSlice S4096x2x3072 ![0, 0, 0] w slices_S4296x2x3072_S4096x2x3072_0_0_0)
    shapeCasts_S4096x2x3072_S4096x6144

/-- The columns laid out as the kernel has them: in keys and in values the heads moved behind the coordinates within a head. -/
def minor (x : FVec Ideal S40000x6144 .f32) : FVec Ideal S40000x6144 .f32 :=
  shapeCast S40000x6144
    (shapeCast S40000x2x3072
      (transpose S40000x2x96x32 [0, 1, 3, 2]
        (shapeCast S40000x2x32x96 (shapeCast S40000x2x3072 x shapeCasts_S40000x6144_S40000x2x3072)
          shapeCasts_S40000x2x3072_S40000x2x32x96) transposes_S40000x2x32x96_S40000x2x96x32_0_1_3_2)
      shapeCasts_S40000x2x96x32_S40000x2x3072) shapeCasts_S40000x2x3072_S40000x6144

/-- The array the call leaves, laid out so, is the scaled products. -/
theorem called (c : Dev nD) : minor ((dats m 0 c).arrAt 3 cfg0.N)
    = scaled (m ((c.tc : Thread nD τ).loc main_arg0)) (m ((c.tc : Thread nD τ).loc main_arg1)) (m ((c.tc : Thread nD τ).loc main_arg2)) := by
  have e0 : V m c main_arg0 = m ((c.tc : Thread nD τ).loc main_arg0) := by
    entry_read; rfl
  have e1 : V m c main_v0 = shapeCast S40000x1 (m ((c.tc : Thread nD τ).loc main_arg1)) shapeCasts_S40000_S40000x1 := by
    entry_read; rfl
  have e2 : V m c main_v2 = cols (m ((c.tc : Thread nD τ).loc main_arg2)) := by
    entry_read; rfl
  rw [final, e0, e1, e2]
  funext j
  unfold scaled minor prods cols
  pointwise
  have hj : (j 1).val < 6144 := (j 1).isLt
  refine congrArg₂ (fun a b : EReal => a * b) (Finset.sum_congr rfl fun k _ => congrArg₂ (fun a b : EReal => a * b) rfl
    (congrArg (m ((c.tc : Thread nD τ).loc main_arg2)) ?_)) rfl
  funext x
  apply Fin.ext
  fin_cases x
  · rfl
  · show ((j 1).val / 3072 * 3072 + (j 1).val % 32 * 96 + (j 1).val / 32 % 96) / 3072 = (j 1).val / 3072
    omega
  · show ((j 1).val / 3072 * 3072 + (j 1).val % 32 * 96 + (j 1).val / 32 % 96) % 3072 = (j 1).val % 32 * 96 + (j 1).val / 32 % 96
    omega

/-- The result array ends at the scaled products. -/
theorem last (c : Dev nD) : Pipeline.afterTail₀ cfgs (dats m) 0 (V0 m) [hostOps1] c main_v8
    = scaled (m ((c.tc : Thread nD τ).loc main_arg0)) (m ((c.tc : Thread nD τ).loc main_arg1)) (m ((c.tc : Thread nD τ).loc main_arg2)) := by
  unfold Pipeline.afterTail₀
  have e : StableHlo.after hostOps1 (Pipeline.withArrays (cfgs 0).spec c (V0 m c) fun w => (dats m 0 c).arrAt w (cfgs 0).N)
      (Proc.devRef .tc main_v8)
      = minor (Pipeline.withArrays (cfgs 0).spec c (V0 m c) (fun w => (dats m 0 c).arrAt w (cfgs 0).N)
          (Proc.devRef .tc main_v3)) := by
    entry_read
    rfl
  exact e.trans ((congrArg minor (Pipeline.withArrays_arr spec0 (by decide) c (V0 m c) _ 3)).trans (called m c))

/-- The run: the result array at the scaled products, the arguments unchanged. -/
theorem run (ρ : Dev nD → PrngReg) : θ_run defs (onTc (τ := τ) (main (F := Ideal))) ⟨m, fun _ => 0, ρ⟩
    (fun r => ∀ c : Dev nD,
      r.2.mem ((c.tc : Thread nD τ).loc main_v8)
        = scaled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(((h.1 c).2 main_v8 (Pipeline.mem_restRefs_of main_v8 (by decide) (by decide))).trans (last m c)), h.2 c⟩)
    (θ_run_and (run_main m ρ) (unchanged m ρ))

end Cert.NodesRefIdeal.Nodes

end
-- ==== Proof.Ffn.Up.lean ====
/- The first product of the feed-forward half: what its 48 grid points leave in the hidden array. -/
module

public import proofs.«01_k».proof.Proof.Chain.FfnIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Ffn

open Cert.FfnIdeal Cert.FfnIdeal.Gen

/-- The hidden array as one function of its operands: the attention part and the scaled memory part of the first
    product, the column scale, the bias and the rectifier. -/
def hiddenArr (A : FVec Ideal S3072x3072 .bf16) (C : FVec Ideal S3072x4096 .bf16) (q : FVec Ideal S3072x1 .f32)
    (W : FVec Ideal S7168x16384 .fp8e4m3) (s b : FVec Ideal S1x16384 .f32) : FVec Ideal S3072x16384 .bf16 := fun j =>
  max ((∑ k : Fin 3072, A (ix2 (j 0) k) * W (ix2 ⟨k.val, by omega⟩ (j 1))
      + (∑ k : Fin 4096, C (ix2 (j 0) k) * W (ix2 ⟨3072 + k.val, by omega⟩ (j 1))) * q (ix2 (j 0) 0))
      * s (ix2 0 (j 1)) + b (ix2 0 (j 1))) 0

/-- Where each window's block sits at a grid point. -/
theorem idx0 : ∀ t : Fin cfg0.N, win0_0.index t = ![t.val / 16, 0] ∧ win0_1.index t = ![t.val / 16, 0]
    ∧ win0_2.index t = ![t.val / 16, 0] ∧ win0_3.index t = ![0, t.val % 16] ∧ win0_4.index t = ![0, t.val % 16]
    ∧ win0_5.index t = ![0, t.val % 16] ∧ win0_6.index t = ![t.val / 16, t.val % 16] ∧ t.val / 16 < 3 :=
  (by decide +kernel : ∀ t : Fin grid0.N, _)

/-- The block a grid point leaves: its two column tiles are one function of the operand blocks. -/
theorem out_at (x0 : Vec Ideal S1024x3072 .bf16) (x1 : Vec Ideal S1024x4096 .bf16) (x2 : Vec Ideal S1024x1 .f32)
    (x3 : Vec Ideal S7168x1024 .fp8e4m3) (x4 x5 : Vec Ideal S1x1024 .f32) (y : S1024x1024.Idx) :
    out0_6 x0 x1 x2 x3 x4 x5 y
      = max ((∑ k : Fin 3072, x0 (ix2 (y 0) k) * x3 (ix2 ⟨k.val, by omega⟩ (y 1))
          + (∑ k : Fin 4096, x1 (ix2 (y 0) k) * x3 (ix2 ⟨3072 + k.val, by omega⟩ (y 1))) * x2 (ix2 (y 0) 0))
          * x4 (ix2 0 (y 1)) + x5 (ix2 0 (y 1))) 0 := by
  unfold out0_6
  canon_tiles x h
  all_goals (open_payloads; pointwise; blk_point [])

/-- After the first call its result array is the hidden array of what its operands held at entry. -/
theorem final0 (V : (c : Dev nD) → (b : Ref sig .tc) → Buf (Elt Ideal) ((c : Thread nD τ).loc b)) (c : Dev nD) :
    (dat0 V c).arrAt 6 cfg0.N
      = hiddenArr (V c main_v4) (V c main_arg1) (V c main_v12) (V c main_arg4) (V c main_v13) (V c main_v14) := by
  refine (dat0 V c).arrAt_eq_of_covers 6 _ (by decide +kernel) fun t _ y => ?_
  blk_simp
  rw [after0_6]
  refine (out_at _ _ _ _ _ _ y).trans ?_
  unfold hiddenArr
  blk_point [iblk0, idx0 t]

end Cert.FfnIdeal.Ffn

end
-- ==== Proof.Ffn.Down.lean ====
/- The second product of the feed-forward half: what its 24 grid points leave in the result array. -/
module

public import proofs.«01_k».proof.Proof.Chain.FfnIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Ffn

open Cert.FfnIdeal Cert.FfnIdeal.Gen

/-- The result array as one function of its operands: the product over the whole hidden width, the column scale and
    the bias. -/
def outArr (Z : FVec Ideal S3072x16384 .bf16) (W : FVec Ideal S16384x4096 .fp8e4m3) (s b : FVec Ideal S1x4096 .f32) :
    FVec Ideal S3072x4096 .bf16 := fun j =>
  (∑ k : Fin 16384, Z (ix2 (j 0) k) * W (ix2 k (j 1))) * s (ix2 0 (j 1)) + b (ix2 0 (j 1))

/-- Where each window's block sits at a grid point: four points in a row walk the hidden width. -/
theorem idx1 : ∀ t : Fin cfg1.N, win1_0.index t = ![t.val / 8, t.val % 4] ∧ win1_1.index t = ![t.val % 4, t.val / 4 % 2]
    ∧ win1_2.index t = ![0, t.val / 4 % 2] ∧ win1_3.index t = ![0, t.val / 4 % 2]
    ∧ win1_4.index t = ![t.val / 8, t.val / 4 % 2] ∧ t.val / 8 < 3 :=
  (by decide +kernel : ∀ t : Fin grid1.N, _)

/-- One point's part of the product. -/
def part (x0 : FVec Ideal S1024x4096 .bf16) (x1 : FVec Ideal S4096x2048 .fp8e4m3) : FVec Ideal S1024x2048 .f32 := fun y =>
  ∑ k : Fin 4096, x0 (ix2 (y 0) k) * x1 (ix2 k (y 1))

/-- The first point of a row leaves its part in the accumulator; -/
theorem accA_at (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : cond1_0 i) (hc1 : ¬cond1_1 i)
    (x0 : Vec Ideal S1024x4096 .bf16) (x1 : Vec Ideal S4096x2048 .fp8e4m3) (x2 x3 : Vec Ideal S1x2048 .f32) (y : S1024x2048.Idx) :
    sout1_A_0 c i arg3 harg3 arg4 harg4 arg5 harg5 arg6 harg6 arg7 harg7 arg8 harg8 hc0 hc1 x0 x1 x2 x3 y = part x0 x1 y := by
  frame_out
  open_payloads
  pointwise
  unfold part
  blk_point []

/-- a later one adds its part to what it finds. -/
theorem accB_at (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : ¬cond1_1 i)
    (x0 : Vec Ideal S1024x4096 .bf16) (x1 : Vec Ideal S4096x2048 .fp8e4m3) (x2 x3 : Vec Ideal S1x2048 .f32) (xs0 : Vec Ideal S1024x2048 .f32) (y : S1024x2048.Idx) :
    sout1_B_0 c i arg3 harg3 arg4 harg4 arg5 harg5 arg6 harg6 arg7 harg7 arg8 harg8 hc0 hc1 x0 x1 x2 x3 xs0 y = xs0 y + part x0 x1 y := by
  frame_out
  open_payloads
  pointwise
  unfold part
  blk_point []

/-- The last point of a row too, -/
theorem accC_at (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec Ideal S1024x4096 .bf16) (x1 : Vec Ideal S4096x2048 .fp8e4m3) (x2 x3 : Vec Ideal S1x2048 .f32) (xs0 : Vec Ideal S1024x2048 .f32) (y : S1024x2048.Idx) :
    sout1_C_0 c i arg3 harg3 arg4 harg4 arg5 harg5 arg6 harg6 arg7 harg7 arg8 harg8 hc0 hc1 x0 x1 x2 x3 xs0 y = xs0 y + part x0 x1 y := by
  frame_out
  open_payloads
  pointwise
  unfold part
  blk_point []

/-- and it leaves the accumulated product, scaled and biased, in the output block. -/
theorem outC_at (c : Dev nD) (i : grid1.Coords) (arg3 : Memref sig .tc .vmem S1024x4096 .bf16) (harg3 : arg3.IsWhole) (arg4 : Memref sig .tc .vmem S4096x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1024x2048 .f32) (harg8 : arg8.IsWhole) (hc0 : ¬cond1_0 i) (hc1 : cond1_1 i)
    (x0 : Vec Ideal S1024x4096 .bf16) (x1 : Vec Ideal S4096x2048 .fp8e4m3) (x2 x3 : Vec Ideal S1x2048 .f32) (xs0 : Vec Ideal S1024x2048 .f32) (y : S1024x2048.Idx) :
    out1_C_4 c i arg3 harg3 arg4 harg4 arg5 harg5 arg6 harg6 arg7 harg7 arg8 harg8 hc0 hc1 x0 x1 x2 x3 xs0 y = (xs0 y + part x0 x1 y) * x2 (ix2 0 (y 1)) + x3 (ix2 0 (y 1)) := by
  frame_out
  open_payloads
  pointwise
  unfold part
  blk_point []

variable (V : (c : Dev nD) → (b : Ref sig .tc) → Buf (Elt Ideal) ((c : Thread nD τ).loc b))

/-- What the accumulator holds at the last point of a row: the four parts. -/
theorem acc_last (c : Dev nD) (t : Fin cfg1.N) (h : t.val % 4 = 3) (y : S1024x2048.Idx) :
    (outsAt1 V c t.val t.isLt).2 y
      = ∑ s : Fin 4, part (iblk1 V c 0 ⟨4 * (t.val / 4) + s.val, Pipeline.run_point_lt_of_flush t h s⟩)
          (iblk1 V c 1 ⟨4 * (t.val / 4) + s.val, Pipeline.run_point_lt_of_flush t h s⟩) y := by
  rw [Pipeline.eq_sum_fin_of_reset_step_apply_of_flush (fun n h => (outsAt1 V c n h).2) 4 (fun _ => 0)
    (fun t y => part (iblk1 V c 0 t) (iblk1 V c 1 t) y)
    (fun t h y => by
      have h1 : ¬ t.val % 4 = 3 := by omega
      rw [outsAt1_A V c t h h1]; dsimp only; rw [accA_at, zero_add])
    (fun t h y => by
      by_cases h1 : t.val % 4 = 3
      · rw [outsAt1_C V c t h h1]; dsimp only; rw [accC_at]
      · rw [outsAt1_B V c t h h1]; dsimp only; rw [accB_at]) t h y, zero_add]

/-- The block a row leaves. -/
theorem left1 (c : Dev nD) (t : Fin cfg1.N) (h : t.val % 4 = 3) (y : S1024x2048.Idx) :
    (outsAt1 V c t.val t.isLt).1 y
      = (outsAt1 V c t.val t.isLt).2 y * (show Vec Ideal S1x2048 .f32 from iblk1 V c 2 t) (ix2 0 (y 1))
        + (show Vec Ideal S1x2048 .f32 from iblk1 V c 3 t) (ix2 0 (y 1)) := by
  have h0 : ¬ t.val % 4 = 0 := by omega
  rw [outsAt1_C V c t h0 h]; dsimp only; rw [outC_at, accC_at]

/-- After the second call its result array is the output of what its operands held at entry. -/
theorem final1 (c : Dev nD) :
    (dat1 V c).arrAt 4 cfg1.N = outArr (V c main_v15) (V c main_arg7) (V c main_v16) (V c main_v17) := by
  refine (dat1 V c).arrAt_eq_of_covers 4 _ (by decide +kernel) fun t hf y => ?_
  have h := (flush1_4 t).mp hf
  blk_simp
  rw [after1_4, left1 V c t h, acc_last V c t h]
  unfold outArr part
  dsimp only
  refine congrArg₂ (fun a b : EReal => a + b) (congrArg₂ (fun a b : EReal => a * b)
    (Fin.sum_mul_add_congr (M := EReal) fun s k hl => ?_) ?_) ?_
  · blk_point [iblk1, idx1 t, idx1 ⟨_, Pipeline.run_point_lt_of_flush t h s⟩]
  · blk_point [iblk1, idx1 t]
  · blk_point [iblk1, idx1 t]

end Cert.FfnIdeal.Ffn

end
-- ==== Proof.Ffn.Entry.lean ====
/- The first call's operands that the host makes: the attention laid out and rounded, and the scale of each event's query node, read
   from the memory's scales by the node's number. -/
module

public import proofs.«01_k».proof.Proof.Gen.FfnIdeal
public import proofs.«01_k».proof.Proof.Gen.FfnRefIdeal
public import Idealize.ShloMosaic.Lib.Pipeline.ValueKit
import Idealize.ShloMosaic.Lib.StableHlo.Predicate
import Idealize.ShloMosaic.Lib.ValueIdxCore
import Idealize.ShloMosaic.Lib.Routing.OpsSet

@[expose] public section

set_option maxRecDepth 16384

noncomputable section

open Idealize.ShloMosaic Idealize.ShloMosaic.TcCoe Idealize.SL.Sem

namespace Cert.FfnIdeal.Ffn

open Cert.FfnIdeal Cert.FfnIdeal.Gen

/-- The attention as both programs lay it out and round it before the first product: its heads moved before the
    coordinates within a head. -/
def rounded (A : FVec Ideal S3072x3072 .f32) : FVec Ideal S3072x3072 .bf16 :=
  truncf .bf16
    (shapeCast S3072x3072
      (transpose S3072x32x96 [0, 2, 1] (shapeCast S3072x96x32 A shapeCasts_S3072x3072_S3072x96x32)
        transposes_S3072x96x32_S3072x32x96_0_2_1)
      shapeCasts_S3072x32x96_S3072x3072) bitsLt_bf16_f32

/-- A node's number as the two programs use it: a negative one counts from the end. -/
def wrap (n : BitVec 32) : BitVec 32 :=
  Scalar.select (IntOp.cmpi .slt n 0#32) (IntOp.addi n 40000#32) n

/-- The scales of the events, one row each: event `r` is at `(r / 256, r % 256)` of the query nodes, and its number is
    clamped into the memory. -/
def scaleArr (S : FVec Ideal S40000 .f32) (n : IVec S12x256 32) : FVec Ideal S3072x1 .f32 := fun y =>
  S (ix1 ⟨min (wrap (n (ix2 ⟨(y 0).val / 256, by have : (y 0).val < 3072 := (y 0).isLt; omega⟩
    ⟨(y 0).val % 256, by omega⟩))).toInt.toNat (40000 - 1), by omega⟩)

/-- The kernel's lines: the nodes in one row, wrapped, gathered, and the scales made a column. -/
def flatScales (S : FVec Ideal S40000 .f32) (n : IVec S12x256 32) : FVec Ideal S3072x1 .f32 :=
  shapeCast S3072x1
    (Host.gather gather_S40000_S3072x1_S3072_n_0_n_n_0_1_1 S
      (broadcastInDim S3072x1 ![0] bcast_S3072_S3072x1_0
        (select
          (cmpi .slt (shapeCast S3072 n shapeCasts_S12x256_S3072) (broadcastInDim S3072 ![] bcast_S_S3072 (constantI S_ 32 0#32)))
          (addi (shapeCast S3072 n shapeCasts_S12x256_S3072) (broadcastInDim S3072 ![] bcast_S_S3072 (constantI S_ 32 40000#32)))
          (shapeCast S3072 n shapeCasts_S12x256_S3072))))
    shapeCasts_S3072_S3072x1

/-- They leave the events' scales. -/
theorem flatScales_eq (S : FVec Ideal S40000 .f32) (n : IVec S12x256 32) : flatScales S n = scaleArr S n := by
  funext y
  unfold flatScales scaleArr
  pointwise []
  have take := StableHlo.Predicate.gather_take gather_S40000_S3072x1_S3072_n_0_n_n_0_1_1 rfl rfl rfl rfl S
      (broadcastInDim S3072x1 ![0] bcast_S3072_S3072x1_0
        (select
          (cmpi .slt (shapeCast S3072 n shapeCasts_S12x256_S3072) (broadcastInDim S3072 ![] bcast_S_S3072 (constantI S_ 32 0#32)))
          (addi (shapeCast S3072 n shapeCasts_S12x256_S3072) (broadcastInDim S3072 ![] bcast_S_S3072 (constantI S_ 32 40000#32)))
          (shapeCast S3072 n shapeCasts_S12x256_S3072))) (y 0) (by decide)
  simp only [Routing.ofFin_eq_ix1] at take
  refine take.trans ?_
  clear take
  pointwise [wrap]
  rfl

end Cert.FfnIdeal.Ffn

namespace Cert.FfnRefIdeal.Ffn

open Cert.FfnRefIdeal Cert.FfnRefIdeal.Gen
open Cert.FfnIdeal.Ffn (wrap scaleArr)

/-- The reference's lines: the nodes wrapped and gathered as they lie, and the scales made a column. -/
def gridScales (S : FVec Ideal S40000 .f32) (n : IVec S12x256 32) : FVec Ideal S3072x1 .f32 :=
  shapeCast S3072x1
    (Host.gather gather_S40000_S12x256x1_S12x256_n_0_n_n_0_2_1 S
      (broadcastInDim S12x256x1 ![0, 1] bcast_S12x256_S12x256x1_0_1
        (select
          (cmpi .slt n (broadcastInDim S12x256 ![] bcast_S_S12x256 (constantI S_ 32 0#32)))
          (addi n (broadcastInDim S12x256 ![] bcast_S_S12x256 (constantI S_ 32 40000#32)))
          n)))
    shapeCasts_S12x256_S3072x1

/-- They leave the events' scales. -/
theorem gridScales_eq (S : FVec Ideal S40000 .f32) (n : IVec S12x256 32) : gridScales S n = scaleArr S n := by
  funext y
  unfold gridScales scaleArr
  pointwise []
  refine (ValueIdx.gather_take_apply (by decide) gather_S40000_S12x256x1_S12x256_n_0_n_n_0_2_1_wf S _ _).trans ?_
  pointwise [wrap]
  rfl

end Cert.FfnRefIdeal.Ffn

end
-- ==== Proof.Ffn.Run.lean ====
/- The run of the two feed-forward calls: what the result array holds at the end. -/
module

public import proofs.«01_k».proof.Proof.Gen.FfnIdeal.Launch
public import proofs.«01_k».proof.Proof.Ffn.Up
public import proofs.«01_k».proof.Proof.Ffn.Down
public import proofs.«01_k».proof.Proof.Ffn.Entry
import Idealize.ShloMosaic.Lib.Claim
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.FfnIdeal.Ffn

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the launch's implicit arguments are found by unifying its conclusion with this one
set_option backward.isDefEq.respectTransparency.types false in
/-- Every buffer of the program ends at the contents after the last line. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c)

end Cert.FfnIdeal.Ffn

namespace Cert.FfnIdeal.Ffn

open Cert.FfnIdeal Cert.FfnIdeal.Gen Idealize.ShloMosaic Idealize.ShloMosaic.TcCoe Idealize.SL.Sem

variable (m : (ℓ : Loc nD τ sig) → Buf (Elt Ideal) ℓ) (ρ : Dev nD → PrngReg)

/-- What the result array holds at the end, from the argument arrays. -/
def result (c : Dev nD) : FVec Ideal S12x256x4096 .bf16 :=
  shapeCast S12x256x4096
    (outArr
      (hiddenArr (rounded (m ((c.tc : Thread nD τ).loc main_arg0))) (m ((c.tc : Thread nD τ).loc main_arg1))
        (scaleArr (m ((c.tc : Thread nD τ).loc main_arg2)) (m ((c.tc : Thread nD τ).loc main_arg3))) (m ((c.tc : Thread nD τ).loc main_arg4))
        (shapeCast S1x16384 (m ((c.tc : Thread nD τ).loc main_arg5)) shapeCasts_S16384_S1x16384)
        (shapeCast S1x16384 (m ((c.tc : Thread nD τ).loc main_arg6)) shapeCasts_S16384_S1x16384))
      (m ((c.tc : Thread nD τ).loc main_arg7))
      (shapeCast S1x4096 (m ((c.tc : Thread nD τ).loc main_arg8)) shapeCasts_S4096_S1x4096)
      (shapeCast S1x4096 (m ((c.tc : Thread nD τ).loc main_arg9)) shapeCasts_S4096_S1x4096))
    shapeCasts_S3072x4096_S12x256x4096

/-- The scales' column as the first call finds it. -/
theorem entry_v12 (c : Dev nD) : V1 m ρ c main_v12 = scaleArr (m ((c.tc : Thread nD τ).loc main_arg2)) (m ((c.tc : Thread nD τ).loc main_arg3)) := by
  refine Eq.trans ?_ (flatScales_eq _ _)
  show StableHlo.after hostOps0 (W0 m ρ c) (Proc.devRef .tc main_v12) = _
  entry_read; rfl

/-- The hidden array as the second call finds it. -/
theorem entry_v15 (c : Dev nD) : V3 m ρ c main_v15
    = hiddenArr (rounded (m ((c.tc : Thread nD τ).loc main_arg0))) (m ((c.tc : Thread nD τ).loc main_arg1))
      (scaleArr (m ((c.tc : Thread nD τ).loc main_arg2)) (m ((c.tc : Thread nD τ).loc main_arg3))) (m ((c.tc : Thread nD τ).loc main_arg4))
      (shapeCast S1x16384 (m ((c.tc : Thread nD τ).loc main_arg5)) shapeCasts_S16384_S1x16384)
      (shapeCast S1x16384 (m ((c.tc : Thread nD τ).loc main_arg6)) shapeCasts_S16384_S1x16384) := by
  refine (W3_of m ρ c main_v15 (by decide)).trans ((W2_arr m ρ c 6).trans ((final0 (V1 m ρ) c).trans ?_))
  have e4 : V1 m ρ c main_v4 = rounded (m ((c.tc : Thread nD τ).loc main_arg0)) := by
    show StableHlo.after hostOps0 (W0 m ρ c) (Proc.devRef .tc main_v4) = _
    entry_read; rfl
  have e13 : V1 m ρ c main_v13 = shapeCast S1x16384 (m ((c.tc : Thread nD τ).loc main_arg5)) shapeCasts_S16384_S1x16384 := by
    show StableHlo.after hostOps0 (W0 m ρ c) (Proc.devRef .tc main_v13) = _
    entry_read; rfl
  have e14 : V1 m ρ c main_v14 = shapeCast S1x16384 (m ((c.tc : Thread nD τ).loc main_arg6)) shapeCasts_S16384_S1x16384 := by
    show StableHlo.after hostOps0 (W0 m ρ c) (Proc.devRef .tc main_v14) = _
    entry_read; rfl
  rw [entry_v12, e4, e13, e14, show V1 m ρ c main_arg1 = _ from W1_args m ρ c main_arg1 (by decide),
    show V1 m ρ c main_arg4 = _ from W1_args m ρ c main_arg4 (by decide)]

/-- The result array ends at `result`. -/
theorem last (c : Dev nD) : W5 m ρ c (Proc.devRef .tc main_v19) = result m c := by
  have e19 : W5 m ρ c (Proc.devRef .tc main_v19)
      = shapeCast S12x256x4096 (W4 m ρ c (Proc.devRef .tc main_v18)) shapeCasts_S3072x4096_S12x256x4096 := by
    show StableHlo.after hostOps2 (W4 m ρ c) (Proc.devRef .tc main_v19) = _
    entry_read; rfl
  refine e19.trans (congrArg (shapeCast S12x256x4096 · shapeCasts_S3072x4096_S12x256x4096) ?_)
  refine (W4_arr m ρ c 4).trans ((final1 (V3 m ρ) c).trans ?_)
  have e16 : V3 m ρ c main_v16 = shapeCast S1x4096 (W2 m ρ c (Proc.devRef .tc main_arg8)) shapeCasts_S4096_S1x4096 := by
    show StableHlo.after hostOps1 (W2 m ρ c) (Proc.devRef .tc main_v16) = _
    entry_read; rfl
  have e17 : V3 m ρ c main_v17 = shapeCast S1x4096 (W2 m ρ c (Proc.devRef .tc main_arg9)) shapeCasts_S4096_S1x4096 := by
    show StableHlo.after hostOps1 (W2 m ρ c) (Proc.devRef .tc main_v17) = _
    entry_read; rfl
  rw [entry_v15, e16, e17, W2_args m ρ c main_arg8 (by decide), W2_args m ρ c main_arg9 (by decide),
    show V3 m ρ c main_arg7 = _ from W3_args m ρ c main_arg7 (by decide)]

/-- The second result: the attention laid out and rounded, as the first call reads it. -/
def attention (c : Dev nD) : FVec Ideal S12x256x3072 .bf16 :=
  shapeCast S12x256x3072 (rounded (m ((c.tc : Thread nD τ).loc main_arg0))) shapeCasts_S3072x3072_S12x256x3072

/-- The second result array ends at `attention`: neither call writes the array it is read from. -/
theorem last_attention (c : Dev nD) : W5 m ρ c (Proc.devRef .tc main_v20) = attention m c := by
  have e20 : W5 m ρ c (Proc.devRef .tc main_v20)
      = shapeCast S12x256x3072 (W4 m ρ c (Proc.devRef .tc main_v4)) shapeCasts_S3072x3072_S12x256x3072 := by
    show StableHlo.after hostOps2 (W4 m ρ c) (Proc.devRef .tc main_v20) = _
    entry_read; rfl
  have e4 : V1 m ρ c main_v4 = rounded (m ((c.tc : Thread nD τ).loc main_arg0)) := by
    show StableHlo.after hostOps0 (W0 m ρ c) (Proc.devRef .tc main_v4) = _
    entry_read; rfl
  refine e20.trans (congrArg (shapeCast S12x256x3072 · shapeCasts_S3072x3072_S12x256x3072) ?_)
  exact (W4_of m ρ c main_v4 (by decide)).trans ((W3_of m ρ c main_v4 (by decide)).trans ((W2_of m ρ c main_v4 (by decide)).trans e4))

/-- The run: the result arrays at `result` and `attention`, the arguments unchanged. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_v20) = attention m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v19 (by decide))).trans (last m ρ c),
      (h c _ (mem_uc main_v20 (by decide))).trans (last_attention m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c)⟩) (run_all m ρ)

end Cert.FfnIdeal.Ffn

end
-- ==== Proof.Ffn.Reference.lean ====
/- The feed-forward reference: what its one call leaves in the result array. -/
module

public import proofs.«01_k».proof.Proof.Gen.FfnRefIdeal.Frame
public import proofs.«01_k».proof.Proof.Ffn.Run
public import Idealize.ShloMosaic.Lib.Pipeline.ValueKit
import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnRefIdeal.Ffn

open Cert.FfnRefIdeal Cert.FfnRefIdeal.Gen
open Cert.FfnIdeal.Ffn (hiddenArr outArr rounded scaleArr)

variable (m : (ℓ : Loc nD τ sig) → Buf (Elt Ideal) ℓ)

/-- The reference's own lines are the same two functions. -/
theorem payload (A : Vec Ideal S3072x3072 .bf16) (C : Vec Ideal S3072x4096 .bf16) (q : Vec Ideal S3072x1 .f32)
    (W : Vec Ideal S7168x16384 .fp8e4m3) (s b : Vec Ideal S1x16384 .f32) (U : Vec Ideal S16384x4096 .fp8e4m3)
    (s' b' : Vec Ideal S1x4096 .f32) (j : S3072x4096.Idx) :
    k0_pay1 (F := Ideal) (k0_pay2 (View.ld A r0_0) (View.ld W r0_1) (View.ld C r0_2) (View.ld W r0_3) (View.ld q r0_4)
        (View.ld s r0_5) (View.ld b r0_5) (View.ld U r0_6) (View.ld s' r0_7) (View.ld b' r0_7)) j
      = outArr (hiddenArr A C q W s b) U s' b' j := by
  pointwise [k0_pay1, k0_pay2, hiddenArr, outArr]

/-- The index maps at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

set_option maxHeartbeats 1000000 in
/-- Its one point reads every operand whole. -/
theorem whole (c : Dev nD) (t : Fin cfg0.N) : iblk m c 0 t = V m c main_v10
    ∧ iblk m c 1 t = V m c main_arg1
    ∧ iblk m c 2 t = V m c main_v11
    ∧ iblk m c 3 t = V m c main_arg4
    ∧ iblk m c 4 t = V m c main_v12
    ∧ iblk m c 5 t = V m c main_v13
    ∧ iblk m c 6 t = V m c main_arg7
    ∧ iblk m c 7 t = V m c main_v14
    ∧ iblk m c 8 t = V m c main_v15 := by
  refine ⟨?_, ?_, ?_, ?_, ?_, ?_, ?_, ?_, ?_⟩ <;> blk_ext! [iblk, idx t]

/-- After its call the result array is the output of the hidden array of the arguments. -/
theorem final (c : Dev nD) : (dats m 0 c).arrAt 9 cfg0.N
    = outArr (hiddenArr (V m c main_v10) (V m c main_arg1) (V m c main_v11) (V m c main_arg4) (V m c main_v12) (V m c main_v13))
        (V m c main_arg7) (V m c main_v14) (V m c main_v15) := by
  refine (dats m 0 c).arrAt_eq_of_covers 9 _ (by decide +kernel) fun t _ y => ?_
  blk_simp
  rw [after0_9]
  unfold out0_9
  canon_tiles x h
  obtain ⟨e0, e1, e2, e3, e4, e5, e6, e7, e8⟩ := whole m c t
  rw [e0, e1, e2, e3, e4, e5, e6, e7, e8]
  refine (payload _ _ _ _ _ _ _ _ _ x).trans (congrArg (outArr _ _ _ _) ?_)
  clear e0 e1 e2 e3 e4 e5 e6 e7 e8
  blk_ext [idx t]

/-- What the result array holds at the end, from the argument arrays. -/
def result (c : Dev nD) : FVec Ideal S12x256x4096 .bf16 :=
  shapeCast S12x256x4096
    (outArr
      (hiddenArr (rounded (m ((c.tc : Thread nD τ).loc main_arg0))) (m ((c.tc : Thread nD τ).loc main_arg1))
        (scaleArr (m ((c.tc : Thread nD τ).loc main_arg2)) (m ((c.tc : Thread nD τ).loc main_arg3))) (m ((c.tc : Thread nD τ).loc main_arg4))
        (shapeCast S1x16384 (m ((c.tc : Thread nD τ).loc main_arg5)) shapeCasts_S16384_S1x16384)
        (shapeCast S1x16384 (m ((c.tc : Thread nD τ).loc main_arg6)) shapeCasts_S16384_S1x16384))
      (m ((c.tc : Thread nD τ).loc main_arg7))
      (shapeCast S1x4096 (m ((c.tc : Thread nD τ).loc main_arg8)) shapeCasts_S4096_S1x4096)
      (shapeCast S1x4096 (m ((c.tc : Thread nD τ).loc main_arg9)) shapeCasts_S4096_S1x4096))
    shapeCasts_S3072x4096_S12x256x4096

/-- The scales' column as the call finds it. -/
theorem entry_v11 (c : Dev nD) : V m c main_v11 = scaleArr (m ((c.tc : Thread nD τ).loc main_arg2)) (m ((c.tc : Thread nD τ).loc main_arg3)) := by
  refine Eq.trans ?_ (gridScales_eq _ _)
  entry_read
  rfl

/-- The array the call leaves, from the argument arrays. -/
theorem called (c : Dev nD) : (dats m 0 c).arrAt 9 cfg0.N
    = outArr
      (hiddenArr (rounded (m ((c.tc : Thread nD τ).loc main_arg0))) (m ((c.tc : Thread nD τ).loc main_arg1))
        (scaleArr (m ((c.tc : Thread nD τ).loc main_arg2)) (m ((c.tc : Thread nD τ).loc main_arg3))) (m ((c.tc : Thread nD τ).loc main_arg4))
        (shapeCast S1x16384 (m ((c.tc : Thread nD τ).loc main_arg5)) shapeCasts_S16384_S1x16384)
        (shapeCast S1x16384 (m ((c.tc : Thread nD τ).loc main_arg6)) shapeCasts_S16384_S1x16384))
      (m ((c.tc : Thread nD τ).loc main_arg7))
      (shapeCast S1x4096 (m ((c.tc : Thread nD τ).loc main_arg8)) shapeCasts_S4096_S1x4096)
      (shapeCast S1x4096 (m ((c.tc : Thread nD τ).loc main_arg9)) shapeCasts_S4096_S1x4096) := by
  rw [final, entry_v11]
  entry_read
  rfl

/-- The result array ends at `result`: the call's array with its events laid out. -/
theorem last (c : Dev nD) : Pipeline.afterTail₀ cfgs (dats m) 0 (V0 m) [hostOps1] c main_v17 = result m c := by
  unfold Pipeline.afterTail₀
  have e : StableHlo.after hostOps1 (Pipeline.withArrays (cfgs 0).spec c (V0 m c) fun w => (dats m 0 c).arrAt w (cfgs 0).N)
      (Proc.devRef .tc main_v17)
      = shapeCast S12x256x4096 (Pipeline.withArrays (cfgs 0).spec c (V0 m c) (fun w => (dats m 0 c).arrAt w (cfgs 0).N)
          (Proc.devRef .tc main_v16)) shapeCasts_S3072x4096_S12x256x4096 := by
    entry_read
    rfl
  refine e.trans (congrArg (shapeCast S12x256x4096 · shapeCasts_S3072x4096_S12x256x4096) ?_)
  exact Pipeline.withArrays_arr spec0 (by decide) c (V0 m c) _ 9 |>.trans (called m c)

/-- The second result: the attention laid out and rounded. -/
def attention (c : Dev nD) : FVec Ideal S12x256x3072 .bf16 :=
  shapeCast S12x256x3072 (rounded (m ((c.tc : Thread nD τ).loc main_arg0))) shapeCasts_S3072x3072_S12x256x3072

/-- The second result array ends at `attention`: the call does not write the array it is read from. -/
theorem last_attention (c : Dev nD) : Pipeline.afterTail₀ cfgs (dats m) 0 (V0 m) [hostOps1] c main_v18 = attention m c := by
  unfold Pipeline.afterTail₀
  have e : StableHlo.after hostOps1 (Pipeline.withArrays (cfgs 0).spec c (V0 m c) fun w => (dats m 0 c).arrAt w (cfgs 0).N)
      (Proc.devRef .tc main_v18)
      = shapeCast S12x256x3072 (Pipeline.withArrays (cfgs 0).spec c (V0 m c) (fun w => (dats m 0 c).arrAt w (cfgs 0).N)
          (Proc.devRef .tc main_v10)) shapeCasts_S3072x3072_S12x256x3072 := by
    entry_read
    rfl
  have e10 : V m c main_v10 = rounded (m ((c.tc : Thread nD τ).loc main_arg0)) := by
    entry_read; rfl
  refine e.trans (congrArg (shapeCast S12x256x3072 · shapeCasts_S3072x3072_S12x256x3072) ?_)
  exact Pipeline.withArrays_arr spec0 (by decide) c (V0 m c) _ 0 |>.trans (((dats m 0 c).arrAt_in 0 rfl _).trans ((A_eq m c 0).trans e10))

/-- The run: the result arrays at `result` and `attention`, the arguments unchanged. -/
theorem run (ρ : Dev nD → PrngReg) : θ_run defs (onTc (τ := τ) (main (F := Ideal))) ⟨m, fun _ => 0, ρ⟩
    (fun r => ∀ c : Dev nD,
      r.2.mem ((c.tc : Thread nD τ).loc main_v17) = result m c
      ∧ r.2.mem ((c.tc : Thread nD τ).loc main_v18) = attention m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(((h.1 c).2 main_v17 (Pipeline.mem_restRefs_of main_v17 (by decide) (by decide))).trans (last m c)),
      (((h.1 c).2 main_v18 (Pipeline.mem_restRefs_of main_v18 (by decide) (by decide))).trans (last_attention m c)), h.2 c⟩)
    (θ_run_and (run_main m ρ) (unchanged m ρ))

end Cert.FfnRefIdeal.Ffn

end
-- ==== Proof.lean ====
/- The proof of the certificate's claim: the six runs, the two preservations, and the equality of each kernel's result
   with its reference's over the reals. -/
module

public import proofs.«01_k».proof.Defs
public import proofs.«01_k».proof.Proof.Gen.Nodes
public import proofs.«01_k».proof.Proof.Gen.Nodes.Skeleton
public import proofs.«01_k».proof.Proof.Gen.Nodes.Launch
public import proofs.«01_k».proof.Proof.Gen.Nodes.Points
public import proofs.«01_k».proof.Proof.Gen.Nodes.Frame
public import proofs.«01_k».proof.Proof.Gen.NodesIdeal
public import proofs.«01_k».proof.Proof.Gen.NodesIdeal.Skeleton
public import proofs.«01_k».proof.Proof.Gen.NodesIdeal.Launch
public import proofs.«01_k».proof.Proof.Gen.NodesIdeal.Points
public import proofs.«01_k».proof.Proof.Gen.NodesIdeal.Frame
public import proofs.«01_k».proof.Proof.Gen.NodesRefIdeal
public import proofs.«01_k».proof.Proof.Gen.NodesRefIdeal.Skeleton
public import proofs.«01_k».proof.Proof.Gen.NodesRefIdeal.Launch
public import proofs.«01_k».proof.Proof.Gen.NodesRefIdeal.Points
public import proofs.«01_k».proof.Proof.Gen.NodesRefIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Chain.Ffn
public import proofs.«01_k».proof.Proof.Chain.FfnIdeal
public import proofs.«01_k».proof.Proof.Nodes.Run
public import proofs.«01_k».proof.Proof.Nodes.Reference
public import proofs.«01_k».proof.Proof.Ffn.Run
public import proofs.«01_k».proof.Proof.Ffn.Reference
public import Idealize.ShloMosaic.Adequacy
public import Idealize.ShloMosaic.Init
import Idealize.ShloMosaic.Lib.Claim

@[expose] public section

set_option maxRecDepth 16384

noncomputable section

namespace Cert.Proof

open Idealize.ShloMosaic Idealize.SL.Sem Cert.Nodes

/-- From equal arguments the two first results are one array. -/
theorem agree (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h0 : m' ((c.tc : Thread Cert.FfnRefIdeal.nD Cert.FfnRefIdeal.τ).loc Cert.FfnRefIdeal.main_arg0)
      = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1)
      = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2)
      = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3)
      = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4)
      = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5)
      = m ((c.tc : Thread Cert.FfnIdeal.nD Cert.FfnIdeal.τ).loc Cert.FfnIdeal.main_arg5))
    (h6 : m' ((c.tc : Thread Cert.FfnRefIdeal.nD Cert.FfnRefIdeal.τ).loc Cert.FfnRefIdeal.main_arg6)
      = m ((c.tc : Thread Cert.FfnIdeal.nD Cert.FfnIdeal.τ).loc Cert.FfnIdeal.main_arg6))
    (h7 : m' ((c.tc : Thread Cert.FfnRefIdeal.nD Cert.FfnRefIdeal.τ).loc Cert.FfnRefIdeal.main_arg7)
      = m ((c.tc : Thread Cert.FfnIdeal.nD Cert.FfnIdeal.τ).loc Cert.FfnIdeal.main_arg7))
    (h8 : m' ((c.tc : Thread Cert.FfnRefIdeal.nD Cert.FfnRefIdeal.τ).loc Cert.FfnRefIdeal.main_arg8)
      = m ((c.tc : Thread Cert.FfnIdeal.nD Cert.FfnIdeal.τ).loc Cert.FfnIdeal.main_arg8))
    (h9 : m' ((c.tc : Thread Cert.FfnRefIdeal.nD Cert.FfnRefIdeal.τ).loc Cert.FfnRefIdeal.main_arg9)
      = m ((c.tc : Thread Cert.FfnIdeal.nD Cert.FfnIdeal.τ).loc Cert.FfnIdeal.main_arg9)) :
    Cert.FfnRefIdeal.Ffn.result m' c = Cert.FfnIdeal.Ffn.result m c := by
  unfold Cert.FfnRefIdeal.Ffn.result Cert.FfnIdeal.Ffn.result
  rw [h0, h1, h2, h3, h4, h5, h6, h7, h8, h9]

/-- Over the reals the feed-forward calls leave what their reference computes, from equal arguments. -/
theorem algebraic_ffn : Cert.algebraic_FfnIdeal_FfnRefIdeal := by
  intro m g m' g' _ hagree
  refine ⟨Cert.FfnIdeal.Ffn.result m, Cert.FfnIdeal.Ffn.attention m, Cert.FfnIdeal.Ffn.run m g,
    (θ_run _ _ _).mono (fun r h c => ⟨(h c).1.trans ?_, (h c).2.1.trans ?_, (h c).2.2⟩) (Cert.FfnRefIdeal.Ffn.run m' g')⟩
  · obtain ⟨h0, h1, h2, h3, h4, h5, h6, h7, h8, h9⟩ := hagree c
    exact agree m m' c h0 h1 h2 h3 h4 h5 h6 h7 h8 h9
  · unfold Cert.FfnRefIdeal.Ffn.attention Cert.FfnIdeal.Ffn.attention
    rw [(hagree c).1]

/-- Over the reals the node call leaves what its reference computes, from equal arguments. -/
theorem algebraic_nodes : Cert.algebraic_NodesIdeal_NodesRefIdeal := by
  intro m g m' g' _ hagree
  refine ⟨fun c => Cert.NodesIdeal.Nodes.scaled
      (m ((c.tc : Thread Cert.NodesIdeal.nD Cert.NodesIdeal.τ).loc Cert.NodesIdeal.main_arg0))
      (m ((c.tc : Thread Cert.NodesIdeal.nD Cert.NodesIdeal.τ).loc Cert.NodesIdeal.main_arg1))
      (m ((c.tc : Thread Cert.NodesIdeal.nD Cert.NodesIdeal.τ).loc Cert.NodesIdeal.main_arg2)),
    Cert.NodesIdeal.Nodes.run m g,
    (θ_run _ _ _).mono (fun r h c => ⟨(h c).1.trans ?_, (h c).2⟩) (Cert.NodesRefIdeal.Nodes.run m' g')⟩
  obtain ⟨h0, h1, h2⟩ := hagree c
  rw [h0, h1, h2]

theorem claim : Cert.Claim :=
  ⟨Cert.Nodes.Gen.facts, Cert.NodesIdeal.Gen.facts, Cert.NodesRefIdeal.Gen.facts,
    Cert.Ffn.Gen.facts, Cert.FfnIdeal.Gen.facts, Cert.FfnRefIdeal.Gen.facts,
    fun m ρ _ => Cert.Nodes.Gen.frame m ρ, fun m ρ _ => Cert.NodesIdeal.Gen.frame m ρ,
    fun m ρ _ => Cert.NodesRefIdeal.Gen.frame m ρ, fun m ρ _ => Cert.Ffn.Gen.frame m ρ,
    fun m ρ _ => Cert.FfnIdeal.Gen.frame m ρ, fun m ρ _ => Cert.FfnRefIdeal.Gen.frame m ρ,
    trivial, algebraic_nodes, trivial, algebraic_ffn⟩

end Cert.Proof

end
